-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512 : Shape := ⟨1, ![512]⟩
abbrev S4x8x128 : Shape := ⟨3, ![4, 8, 128]⟩
abbrev S3 : Shape := ⟨1, ![3]⟩
abbrev S_ : Shape := ⟨0, ![]⟩
abbrev S8x128x512 : Shape := ⟨3, ![8, 128, 512]⟩
abbrev S8x128 : Shape := ⟨2, ![8, 128]⟩
abbrev S1x8x128 : Shape := ⟨3, ![1, 8, 128]⟩
abbrev S1 : Shape := ⟨1, ![1]⟩
abbrev S1x512 : Shape := ⟨2, ![1, 512]⟩
abbrev S1x1x512 : Shape := ⟨3, ![1, 1, 512]⟩
abbrev S8x128x1 : Shape := ⟨3, ![8, 128, 1]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .bf16⟩
  | .local _ .vmem, ⟨0, _⟩ => ⟨S1024x512, .f32⟩
  | .local _ .vmem, ⟨1, _⟩ => ⟨S512, .f32⟩
  | .local _ .vmem, ⟨2, _⟩ => ⟨S1024x512, .bf16⟩
  | .local _ .vmem, ⟨3, _⟩ => ⟨S4x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v51 : BitVec 32 := Scalar.addi v2 c1_i32_32
  let c4_i32_33 : BitVec 32 := 4#32
  let c0_i32_34 : BitVec 32 := 0#32
  let v52 : BitVec 1 := Scalar.cmpi .eq c4_i32_33 c0_i32_34
  let c1_i32_35 : BitVec 32 := 1#32
  let v53 : BitVec 32 := Scalar.select v52 c1_i32_35 c4_i32_33
  let v54 : BitVec 32 := Scalar.remsi v51 v53
  let c0_i32_37 : BitVec 32 := 0#32
  let v56 : BitVec 1 := Scalar.cmpi .slt v54 c0_i32_37
  let c0_i32_38 : BitVec 32 := 0#32
  let v57 : BitVec 1 := Scalar.cmpi .slt v53 c0_i32_38
  let v58 : BitVec 1 := Scalar.xori v56 v57
  let c0_i32_36 : BitVec 32 := 0#32
  let v55 : BitVec 1 := Scalar.cmpi .ne v54 c0_i32_36
  let v59 : BitVec 1 := Scalar.andi v58 v55
  let v60 : BitVec 32 := Scalar.addi v54 v53
  let v61 : BitVec 32 := Scalar.select v59 v60 v54
  let c1_i32_43 : BitVec 32 := 1#32
  let v62 : BitVec 32 := Scalar.muli v61 c1_i32_43
  let v63 : BitVec 32 := Scalar.addi c0_i32_44 v62
  v63.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v72 : BitVec 32 := Scalar.addi v2 c2_i32_49
  let c4_i32_50 : BitVec 32 := 4#32
  let c0_i32_51 : BitVec 32 := 0#32
  let v73 : BitVec 1 := Scalar.cmpi .eq c4_i32_50 c0_i32_51
  let c1_i32_52 : BitVec 32 := 1#32
  let v74 : BitVec 32 := Scalar.select v73 c1_i32_52 c4_i32_50
  let v75 : BitVec 32 := Scalar.remsi v72 v74
  let c0_i32_54 : BitVec 32 := 0#32
  let v77 : BitVec 1 := Scalar.cmpi .slt v75 c0_i32_54
  let c0_i32_55 : BitVec 32 := 0#32
  let v78 : BitVec 1 := Scalar.cmpi .slt v74 c0_i32_55
  let v79 : BitVec 1 := Scalar.xori v77 v78
  let c0_i32_53 : BitVec 32 := 0#32
  let v76 : BitVec 1 := Scalar.cmpi .ne v75 c0_i32_53
  let v80 : BitVec 1 := Scalar.andi v79 v76
  let v81 : BitVec 32 := Scalar.addi v75 v74
  let v82 : BitVec 32 := Scalar.select v80 v81 v75
  let c1_i32_60 : BitVec 32 := 1#32
  let v83 : BitVec 32 := Scalar.muli v82 c1_i32_60
  let v84 : BitVec 32 := Scalar.addi c0_i32_61 v83
  v84.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v93 : BitVec 32 := Scalar.addi v2 c3_i32_66
  let c4_i32_67 : BitVec 32 := 4#32
  let c0_i32_68 : BitVec 32 := 0#32
  let v94 : BitVec 1 := Scalar.cmpi .eq c4_i32_67 c0_i32_68
  let c1_i32_69 : BitVec 32 := 1#32
  let v95 : BitVec 32 := Scalar.select v94 c1_i32_69 c4_i32_67
  let v96 : BitVec 32 := Scalar.remsi v93 v95
  let c0_i32_71 : BitVec 32 := 0#32
  let v98 : BitVec 1 := Scalar.cmpi .slt v96 c0_i32_71
  let c0_i32_72 : BitVec 32 := 0#32
  let v99 : BitVec 1 := Scalar.cmpi .slt v95 c0_i32_72
  let v100 : BitVec 1 := Scalar.xori v98 v99
  let c0_i32_70 : BitVec 32 := 0#32
  let v97 : BitVec 1 := Scalar.cmpi .ne v96 c0_i32_70
  let v101 : BitVec 1 := Scalar.andi v100 v97
  let v102 : BitVec 32 := Scalar.addi v96 v95
  let v103 : BitVec 32 := Scalar.select v101 v102 v96
  let c1_i32_77 : BitVec 32 := 1#32
  let v104 : BitVec 32 := Scalar.muli v103 c1_i32_77
  let v105 : BitVec 32 := Scalar.addi c0_i32_78 v104
  v105.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Wire.lean ====
/-
# The wires of the kernel: devices, slots, semaphores and who owes whom

Four devices, each with a scratch buffer of four slots. Slot 0 keeps the device's own row sums; slot `k + 1`
receives the row sums of the device `k + 1` places before it (`src c k`). Transfer `k` of device `c` copies its
slot 0 into slot `k + 1` of `peer c k`.

* The barrier semaphore of `c` is raised by one by each of the three other devices, and `c` waits for three. The
  unit of `peer c k` brings the right to write slot `k + 1` of `peer c k`, and that `peer c k` has not yet counted
  anything on the receive semaphore of that slot.
* Receive semaphore `k` of `c` is raised by the copy of `src c k`; the landing brings slot `k + 1` of `c`, holding the
  row sums of `src c k`.
* Send semaphore `k` of `c` is raised by its own copy `k`; it brings back the part of slot 0 lent to that copy.
  Slot 0 is read again while the copies run, so each copy is lent a share of it and a fourth share stays.

Every wait on a send or receive semaphore comes after the device has paid all it owes; at the barrier it owes the
three receive semaphores of its peers, which are placed above every barrier.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds beside the wires' -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev EW : Emb UB (MT nD τ sig Unit (Elt F) ℕ UU ℕ) := embR

variable (m : (ℓ : Loc nD τ sig) → Buf (Elt F) ℓ) (ρ : Dev nD → PrngReg)

/-- The memory the program starts from. -/
def s₀ : MemSt nD τ sig (Elt F) := ⟨m, fun _ => 0, ρ⟩

/-! ## The devices -/

set_option backward.proofsInPublic true in
/-- The device `k + 1` places after `c`. -/
def peer (c : Dev nD) (k : Fin 3) : Dev nD := ⟨(c.val + k.val + 1) % 4, Nat.mod_lt _ (by decide)⟩
set_option backward.proofsInPublic true in
/-- The device `k + 1` places before `c`. -/
def src (c : Dev nD) (k : Fin 3) : Dev nD := ⟨(c.val + 3 - k.val) % 4, Nat.mod_lt _ (by decide)⟩

theorem src_peer : ∀ (c : Dev nD) (k : Fin 3), src (peer c k) k = c := by decide
theorem peer_src : ∀ (c : Dev nD) (k : Fin 3), peer (src c k) k = c := by decide
/-- Going `k + 1` places on and `3 - k` places further is going round. -/
theorem peer_rev : ∀ (c : Dev nD) (k : Fin 3), peer (peer c k) k.rev = c := by decide

def around (k : Fin 3) : Dev nD ≃ Dev nD := ⟨fun c => peer c k, fun c => src c k, fun c => src_peer c k, fun c => peer_src c k⟩

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel

/-! ## The buffers, the slots, the semaphores -/

abbrev xM : Memref sig .tc .vmem S1024x512 .f32 := Memref.whole cc0_stg0_0
abbrev gM : Memref sig .tc .vmem S512 .f32 := Memref.whole cc0_stg1_0
abbrev oM : Memref sig .tc .vmem S1024x512 .bf16 := Memref.whole cc0_stg2_0
abbrev commM : Memref sig .tc .vmem S4x8x128 .f32 := Memref.whole cc0_scratch0

theorem inbSlot : ∀ (d : Fin 4) a, (![d.val, 0, 0] : Fin 3 → Nat) a + S1x8x128.size a ≤ S4x8x128.size a := by decide
theorem inbSem : ∀ (k : Fin 3) a, (![k.val] : Fin 1 → Nat) a + S1.size a ≤ S3.size a := by decide

/-- Slot `d` of the scratch buffer, as a rectangle of it and as the kernel's copies name it. -/
abbrev rS (d : Fin 4) : Rect S4x8x128 := Rect.unit (s := S4x8x128) ![d.val, 0, 0] S1x8x128.size (inbSlot d)
abbrev slotM (d : Fin 4) : Memref sig .tc .vmem S8x128 .f32 := (commM.slice (rS d) (fun _ => rfl)).squeeze S8x128 squeezes_S1x8x128_S8x128

abbrev barS : Sem sig := (SemArray.scalar (sig.barrier 0 rfl) : Sems sig S_).sem
abbrev sendS (k : Fin 3) : DmaSem sig := ((cc0_scratch1.slice (Rect.unit (s := S3) ![k.val] S1.size (inbSem k))).squeeze S_ squeezes_S1_S_).sem
abbrev recvS (k : Fin 3) : DmaSem sig := ((cc0_scratch2.slice (Rect.unit (s := S3) ![k.val] S1.size (inbSem k))).squeeze S_ squeezes_S1_S_).sem

theorem sendS_val : ∀ k : Fin 3, sendS k = ⟨3 + k.val, by have := k.isLt; show _ < 9; omega⟩ := by decide
theorem recvS_val : ∀ k : Fin 3, recvS k = ⟨6 + k.val, by have := k.isLt; show _ < 9; omega⟩ := by decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own semaphores: three to send, three to receive. -/
abbrev osem : Fin 6 → SemLoc sig := fun
  | 0 => .dma (sendS 0) | 1 => .dma (sendS 1) | 2 => .dma (sendS 2)
  | 3 => .dma (recvS 0) | 4 => .dma (recvS 1) | 5 => .dma (recvS 2)
/-- All seven: the barrier first. -/
abbrev csem : Fin 7 → SemLoc sig := fun
  | 0 => .reg barS
  | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- Where the send and receive semaphores stand among the seven. -/
abbrev ixS (k : Fin 3) : Fin 7 := ⟨k.val + 1, by omega⟩
abbrev ixR (k : Fin 3) : Fin 7 := ⟨k.val + 4, by omega⟩
theorem csem_ixS : ∀ k, csem (ixS k) = .dma (sendS k) := by decide
theorem csem_ixR : ∀ k, csem (ixR k) = .dma (recvS k) := by decide

/-- What a copy of a slot raises a semaphore by. -/
abbrev N : ℕ := (slotM 0).view.dmaCredit
theorem N_pos : 0 < N := View.dmaCredit_pos _ (by decide)

/-! ## Contents -/

/-- The device's block of `x` and of the scale, as staged. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- The row sums of device `c`'s block, as it stores them and as a slot. -/
def sums (c : Dev nD) : S1x8x128.Idx → Elt F .f32 := k0_pay2 (xstg m ρ c)
def own (c : Dev nD) : S8x128.Idx → Elt F .f32 := fun x => sums m ρ c (Shape.reshapeEquiv (squeezes_S1x8x128_S8x128).numel_eq x)

abbrev CommBuf (c : Dev nD) : Type := Buf (Elt F) ((c : Thread nD τ).loc cc0_scratch0)

/-- The scratch of device `c` with the row sums of `p` in slot `d`. -/
def filled (c : Dev nD) (d : Fin 4) (p : Dev nD) : CommBuf (F := F) c :=
  (slotM d).view.write (Elt F) (m ((c : Thread nD τ).loc cc0_scratch0)) (own m ρ p) Finset.univ

theorem read_filled (c : Dev nD) (d : Fin 4) (p : Dev nD) : (slotM d).view.read (Elt F) (filled m ρ c d p) = own m ρ p :=
  View.read_write_univ _ _

omit [FloatOps F] in
/-- What a slot reads as a slot it reads as a rectangle of the scratch. -/
theorem read_rect {d : Fin 4} {f : (cc0_scratch0 : Ref sig .tc).ty.Contents (Elt F)} {w : S1x8x128.Idx → Elt F .f32}
    (h : (slotM d).view.read (Elt F) f = fun x => w (Shape.reshapeEquiv (squeezes_S1x8x128_S8x128).numel_eq x)) :
    commM.view.readAt (Elt F) (rS d).toLoadRect f = w := by
  funext y
  have h' := congrFun h ((Shape.reshapeEquiv (squeezes_S1x8x128_S8x128).numel_eq).symm y)
  rw [Equiv.apply_symm_apply] at h'
  rw [← h', View.readAt_rect]
  show _ = (commM.view.slice (rS d)).read (Elt F) f (Shape.reshapeEquiv _ ((Shape.reshapeEquiv _).symm y))
  rw [Equiv.apply_symm_apply]

theorem readAt_filled (c : Dev nD) (d : Fin 4) (p : Dev nD) :
    commM.view.readAt (Elt F) (rS d).toLoadRect (filled m ρ c d p) = sums m ρ p :=
  read_rect (read_filled m ρ c d p)

omit [FloatOps F] in
/-- Contents a slot reads alike agree on it. -/
theorem agree_of_read {d : Fin 4} {f g : (cc0_scratch0 : Ref sig .tc).ty.Contents (Elt F)}
    (h : (slotM d).view.read (Elt F) f = (slotM d).view.read (Elt F) g) : ∀ i ∈ (slotM d).view.set, f i = g i := fun i hi => by
  obtain ⟨x, -, rfl⟩ := Finset.mem_map.mp hi
  exact View.eq_of_read_eq (congrFun h x)

/-! ## The slots held -/

/-- Slot `d` of device `c` held at the share `q`. -/
def slotPts (c : Dev nD) (d : Fin 4) (q : PosShare TreeShare) (f : CommBuf (F := F) c) : sProp 𝕄 :=
  (slotM d).view.loc (c : Thread nD τ) ↦[(slotM d).view.set]{q} f

omit [FloatOps F] in
instance slotPts_storable (c : Dev nD) (d : Fin 4) (q) (f) : BI.Storable (upEmb : UEmb _ 𝕄) (slotPts (F := F) c d q f) := by
  unfold slotPts; infer_instance

omit [FloatOps F] in
theorem slotPts_of_read {c : Dev nD} {d : Fin 4} {q : PosShare TreeShare} {f g : CommBuf (F := F) c}
    (h : (slotM d).view.read (Elt F) f = (slotM d).view.read (Elt F) g) : slotPts c d q f = slotPts (F := F) c d q g := by
  unfold slotPts; exact pointsTo_congr (agree_of_read h)

/-- The elements of slot `d`. -/
abbrev slotSet (d : Fin 4) : Finset S4x8x128.Idx := (slotM d).view.set

theorem slot_set (d : Fin 4) : slotSet d = (rS d).set :=
  (View.set_reshape (v := commM.view.slice (rS d)) _).trans (View.set_slice_whole _ _)

theorem slot_disjoint (d d' : Fin 4) (h : d ≠ d') : Disjoint (slotSet d) (slotSet d') := by
  rw [slot_set, slot_set]
  exact Ring.lead_disjoint (s := S4x8x128) (NB := 4) (0 : Fin 3) 1 (fun d => ![d.val, 0, 0]) S1x8x128.size inbSlot
    (by decide) rfl d d' h

theorem slot_cover : (Finset.univ : Finset (Fin 4)).biUnion slotSet = Finset.univ := by
  rw [show slotSet = fun d => (rS d).set from funext slot_set]
  exact Ring.lead_cover (s := S4x8x128) (NB := 4) (0 : Fin 3) 1 (fun d => ![d.val, 0, 0]) S1x8x128.size inbSlot
    (by decide) (by decide) rfl (by decide) rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The scratch whole is its four slots. -/
theorem comm_split (c : Dev nD) (f : CommBuf (F := F) c) :
    (((c : Thread nD τ).loc cc0_scratch0) ↦{fullShare} f : sProp 𝕄)
      = iprop(slotPts c 0 fullShare f ∗ slotPts c 1 fullShare f ∗ slotPts c 2 fullShare f ∗ slotPts c 3 fullShare f) := by
  rw [Ring.pointsTo_blocks (ℓ := (c : Thread nD τ).loc cc0_scratch0) slotSet slot_disjoint slot_cover f, bigSep_fin4]
  rfl

omit [FloatOps F] in
theorem comm_join (c : Dev nD) :
    iprop((∃ f, slotPts (F := F) c 0 fullShare f) ∗ (∃ f, slotPts (F := F) c 1 fullShare f) ∗ (∃ f, slotPts (F := F) c 2 fullShare f) ∗ (∃ f, slotPts (F := F) c 3 fullShare f))
      ⊢ (iprop(∃ f, ((c : Thread nD τ).loc cc0_scratch0) ↦{fullShare} f) : sProp 𝕄) := by
  unfold slotPts
  iintro ⟨⟨%f, H⟩, Hr⟩
  iapply (Ring.pointsTo_blocks_join_exists (ℓ := (c : Thread nD τ).loc cc0_scratch0) slotSet slot_disjoint slot_cover f)
  rw [bigSep_fin4]
  isplitl [H]
  · iexists f; iexact H
  · iexact Hr

/-! ### The shares of slot 0 -/

/-- The share of slot 0 lent to copy `k`; the share kept. -/
def lent : Fin 3 → PosShare TreeShare
  | 0 => fullShare.right
  | 1 => fullShare.left.right
  | 2 => fullShare.left.left.right
def kept : PosShare TreeShare := fullShare.left.left.left

omit [FloatOps F] in
theorem slot0_shares (c : Dev nD) (f : CommBuf (F := F) c) :
    slotPts c 0 fullShare f ⊣⊢ iprop(slotPts c 0 kept f ∗ slotPts c 0 (lent 0) f ∗ slotPts c 0 (lent 1) f ∗ slotPts c 0 (lent 2) f) := by
  have h (q : PosShare TreeShare) : slotPts c 0 q f ⊣⊢ iprop(slotPts c 0 q.left f ∗ slotPts c 0 q.right f) :=
    pointsTo_share (PosShare.mem_left_op_right q)
  constructor
  · iintro H
    ihave H := (h fullShare).1 $$ H
    icases H with ⟨H, H0⟩
    ihave H := (h fullShare.left).1 $$ H
    icases H with ⟨H, H1⟩
    ihave H := (h fullShare.left.left).1 $$ H
    icases H with ⟨H, H2⟩
    isplitl [H]; · iexact H
    isplitl [H0]; · iexact H0
    isplitl [H1]; · iexact H1
    iexact H2
  · iintro ⟨H, H0, H1, H2⟩
    iapply (h fullShare).2
    isplitr [H0]
    · iapply (h fullShare.left).2
      isplitr [H1]
      · iapply (h fullShare.left.left).2
        isplitl [H]; · iexact H
        iexact H2
      · iexact H1
    · iexact H0

/-! ## The schedule -/

/-- What the unit of `peer c k` brings to `c`'s barrier: the slot of `peer c k` that `c` writes. -/
def barPay (c : Dev nD) (k : Fin 3) : sProp 𝕄 :=
  iprop((∃ f, slotPts (peer c k) k.succ fullShare f) ∗ reached EW (recvCell (peer c k) k) 0)
/-- What the landing from `src c k` brings. -/
def recvPay (c : Dev nD) (k : Fin 3) : sProp 𝕄 := slotPts c k.succ fullShare (filled m ρ c k.succ (src c k))
/-- What the end of the reading of copy `k` brings back. -/
def sendPay (c : Dev nD) (k : Fin 3) : sProp 𝕄 := slotPts c 0 (lent k) (filled m ρ c 0 c)

def dmaPay (c : Dev nD) (q : DmaSem sig) : sProp 𝕄 :=
  if q = sendS 0 then sendPay m ρ c 0 else if q = sendS 1 then sendPay m ρ c 1 else if q = sendS 2 then sendPay m ρ c 2
  else if q = recvS 0 then recvPay m ρ c 0 else if q = recvS 1 then recvPay m ρ c 1 else if q = recvS 2 then recvPay m ρ c 2
  else iprop(emp)

/-- One round: the barrier has three duties of one unit, a send or receive semaphore one of a slot's credit. -/
def wires : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => dmaPay m ρ g.1.1 q
  amount_pos g _ _ _ := by
    cases g.2 with
    | reg _ => exact Nat.one_pos
    | dma _ => exact N_pos

instance dmaPay_storable (c : Dev nD) (q : DmaSem sig) : BI.Storable (upEmb : UEmb _ 𝕄) (dmaPay m ρ c q) := by
  unfold dmaPay sendPay recvPay
  (repeat' split) <;> infer_instance

instance wires_payload_storable (g : GSem nD τ sig) (r : ℕ) (d : Fin 3) :
    BI.Storable (upEmb : UEmb _ 𝕄) ((wires (F := F) m ρ).payload g r d) := by
  show BI.Storable upEmb (match g.2 with | .reg _ => barPay g.1.1 d | .dma q => dmaPay m ρ g.1.1 q)
  split
  · unfold barPay; infer_instance
  · infer_instance

section Sched
variable (c : Dev nD) (k : Fin 3)

theorem duties_bar : (wires (F := F) m ρ).duties (barCell c) 0 = Finset.univ := by
  dsimp only [wires]; exact if_pos ⟨rfl, rfl⟩
theorem duties_dma (q : DmaSem sig) : (wires (F := F) m ρ).duties ((c : Thread nD τ), .dma q) 0 = {0} := by
  dsimp only [wires]; exact if_pos ⟨rfl, rfl⟩
theorem duties_later (g : GSem nD τ sig) : ∀ r, 1 ≤ r → (wires (F := F) m ρ).duties g r = ∅ :=
  fun r hr => by dsimp only [wires]; exact if_neg fun h => by have := h.1; omega
theorem amount_bar (d : Fin 3) : (wires (F := F) m ρ).amount (barCell c) 0 d = 1 := rfl
theorem amount_dma (q : DmaSem sig) (d : Fin 3) : (wires (F := F) m ρ).amount ((c : Thread nD τ), .dma q) 0 d = N := rfl

theorem expect_bar : (wires (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_dma (q : DmaSem sig) : (wires (F := F) m ρ).expect ((c : Thread nD τ), .dma q) 0 = N := by
  unfold Schedule.expect Schedule.amountOf; rw [duties_dma, Finset.sum_singleton, amount_dma]

theorem payload_bar (d : Fin 3) : (wires (F := F) m ρ).payload (barCell c) 0 d = barPay c d := rfl
theorem payload_send (d : Fin 3) : (wires (F := F) m ρ).payload (sendCell c k) 0 d = sendPay m ρ c k := by
  show dmaPay m ρ c (sendS k) = _
  unfold dmaPay
  fin_cases k
  · exact if_pos rfl
  · exact (if_neg (by decide)).trans (if_pos rfl)
  · exact (if_neg (by decide)).trans ((if_neg (by decide)).trans (if_pos rfl))
theorem payload_recv (d : Fin 3) : (wires (F := F) m ρ).payload (recvCell c k) 0 d = recvPay m ρ c k := by
  show dmaPay m ρ c (recvS k) = _
  unfold dmaPay
  rw [if_neg (by revert k; decide), if_neg (by revert k; decide), if_neg (by revert k; decide)]
  fin_cases k
  · exact if_pos rfl
  · exact (if_neg (by decide)).trans (if_pos rfl)
  · exact (if_neg (by decide)).trans ((if_neg (by decide)).trans (if_pos rfl))

theorem rest_bar : bigSep ((wires (F := F) m ρ).duties (barCell c) 0 \ ∅) (fun d => (wires (F := F) m ρ).payload (barCell c) 0 d)
    = iprop(barPay c 0 ∗ barPay c 1 ∗ barPay c 2) := by
  rw [Finset.sdiff_empty, duties_bar, bigSep_fin3]; rfl
theorem rest_send : bigSep ((wires (F := F) m ρ).duties (sendCell c k) 0 \ ∅) (fun d => (wires (F := F) m ρ).payload (sendCell c k) 0 d) = sendPay m ρ c k := by
  rw [Finset.sdiff_empty, duties_dma, bigSep_singleton, payload_send]
theorem rest_recv : bigSep ((wires (F := F) m ρ).duties (recvCell c k) 0 \ ∅) (fun d => (wires (F := F) m ρ).payload (recvCell c k) 0 d) = recvPay m ρ c k := by
  rw [Finset.sdiff_empty, duties_dma, bigSep_singleton, payload_recv]

end Sched

/-! ## What each device owes, and in what order it may wait -/

/-- What is owed before copy `k` and the later ones, and before signal `k` and the later ones. -/
def oweR2 (c : Dev nD) : CellTallies nD τ sig Unit := 0 + tallyAt (recvCell (peer c 2) 2) () N
def oweR1 (c : Dev nD) : CellTallies nD τ sig Unit := oweR2 c + tallyAt (recvCell (peer c 1) 1) () N
def oweR0 (c : Dev nD) : CellTallies nD τ sig Unit := oweR1 c + tallyAt (recvCell (peer c 0) 0) () N
def oweB2 (c : Dev nD) : CellTallies nD τ sig Unit := oweR0 c + tallyAt (barCell (peer c 2)) () 1
def oweB1 (c : Dev nD) : CellTallies nD τ sig Unit := oweB2 c + tallyAt (barCell (peer c 1)) () 1
def oweB0 (c : Dev nD) : CellTallies nD τ sig Unit := oweB1 c + tallyAt (barCell (peer c 0)) () 1

theorem oweR0_apply (c : Dev nD) (g : GSem nD τ sig) (u : Unit) :
    oweR0 c g u = (if g = recvCell (peer c 2) 2 ∧ u = () then N else 0) + (if g = recvCell (peer c 1) 1 ∧ u = () then N else 0)
      + (if g = recvCell (peer c 0) 0 ∧ u = () then N else 0) := by
  unfold oweR0 oweR1 oweR2
  rw [zero_add, Pi.add_apply, Finsupp.add_apply, Pi.add_apply, Finsupp.add_apply, tallyAt_apply, tallyAt_apply, tallyAt_apply]
theorem oweB0_apply (c : Dev nD) (g : GSem nD τ sig) (u : Unit) :
    oweB0 c g u = oweR0 c g u + (if g = barCell (peer c 2) ∧ u = () then 1 else 0) + (if g = barCell (peer c 1) ∧ u = () then 1 else 0)
      + (if g = barCell (peer c 0) ∧ u = () then 1 else 0) := by
  unfold oweB0 oweB1 oweB2
  rw [Pi.add_apply, Finsupp.add_apply, Pi.add_apply, Finsupp.add_apply, Pi.add_apply, Finsupp.add_apply, tallyAt_apply, tallyAt_apply, tallyAt_apply]

theorem oweR0_pos {c : Dev nD} {g : GSem nD τ sig} {u : Unit} (h : 0 < oweR0 c g u) : ∃ k, g = recvCell (peer c k) k := by
  rw [oweR0_apply] at h
  by_contra hn
  rw [not_exists] at hn
  rw [if_neg (fun h' => hn 2 h'.1), if_neg (fun h' => hn 1 h'.1), if_neg (fun h' => hn 0 h'.1)] at h
  exact Nat.lt_irrefl 0 h
theorem oweB0_pos {c : Dev nD} {g : GSem nD τ sig} {u : Unit} (h : 0 < oweB0 c g u) :
    (∃ k, g = recvCell (peer c k) k) ∨ ∃ k, g = barCell (peer c k) := by
  by_contra hn
  rw [not_or, not_exists, not_exists] at hn
  rw [oweB0_apply, if_neg (fun h' => hn.2 2 h'.1), if_neg (fun h' => hn.2 1 h'.1), if_neg (fun h' => hn.2 0 h'.1)] at h
  simp only [Nat.add_zero] at h
  exact absurd (oweR0_pos h) (not_exists.mpr hn.1)

def L (g : GSem nD τ sig) : Finset Unit := if g.1.2 = .tc then {()} else ∅
/-- The barriers at 1, the receive semaphores at 2, all else at 0. -/
def lv (g : GSem nD τ sig) (_ : Unit) : ℕ := match g.2 with
  | .reg _ => 1
  | .dma q => if 6 ≤ q.val then 2 else 0

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _
theorem lv_recv (c : Dev nD) (k : Fin 3) : lv (recvCell c k) () = 2 := by
  show (if 6 ≤ (recvS k).val then 2 else 0) = 2
  rw [recvS_val]; exact if_pos (Nat.le_add_right _ _)

omit [FloatOps F] in
theorem mayWait_stage (c : Dev nD) (q : DmaSem sig) (hq : q.val < 6) (O : CellTallies nD τ sig Unit) (hO : O = oweB0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _)
      (fun g u hg => by rcases oweB0_pos hg with ⟨k, rfl⟩ | ⟨k, rfl⟩ <;> exact mem_L _ _)
      (fun p hp => by
        rw [Finset.mem_singleton.mp hp]
        show (if 6 ≤ q.val then 2 else 0) ≤ 0
        rw [if_neg (Nat.not_le.mpr hq)])
      (fun g u hg => by
        rcases oweB0_pos hg with ⟨k, rfl⟩ | ⟨k, rfl⟩
        · rw [show lv (recvCell (peer c k) k) u = 2 from lv_recv _ _]; decide
        · exact Nat.one_pos)
  · rw [MayWait_zero]; iintro -; iempintro

omit [FloatOps F] in
/-- At the barrier a device owes its peers' receive semaphores only. -/
theorem mayWait_bar (c : Dev nD) : (levAts L lv : sProp 𝕄) ⊢ MayWait (c : Thread nD τ) (.reg barS) () (oweR0 c) :=
  MayOwe.of_cut (L := L) (lev := lv) 1 (fun p hp => by rw [Finset.mem_singleton.mp hp]; exact mem_L _ _)
    (fun g u hg => by obtain ⟨k, rfl⟩ := oweR0_pos hg; exact mem_L _ _)
    (fun p hp => by rw [Finset.mem_singleton.mp hp]; exact Nat.le_refl 1)
    (fun g u hg => by
      obtain ⟨k, rfl⟩ := oweR0_pos hg
      rw [show lv (recvCell (peer c k) k) u = 2 from lv_recv _ _]; decide)

end Cert.RowNorm

end
-- ==== Proof.Steps.lean ====
/-
# The steps of the kernel

One rule for each kind of step the kernel takes on its wires: a signal, the wait at the barrier, a copy to a peer, a
wait for a landing, a wait for a copy of one's own to be read. Each is stated at any device `c` and any of the three
transfers `k`.
-/
module

public import proofs.«01_k».proof.Proof.Wire

@[expose] public section

noncomputable section

namespace Cert.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` owes `O`, whatever it has waited for. -/
def owing (c : Dev nD) (O : CellTallies nD τ sig Unit) : sProp 𝕄 := iprop(∃ W, owes (c : Thread nD τ) O W)

omit [FloatOps F] in
theorem owing_of (c : Dev nD) (O : CellTallies nD τ sig Unit) (W : Waits sig Unit) : owes (c : Thread nD τ) O W ⊢ (owing c O : sProp 𝕄) := by
  unfold owing; iintro H; iexists W; iexact H

variable (K : Dev nD × Fin 7 → ℕ) (c : Dev nD)

abbrev invBar (p : Dev nD) : sProp 𝕄 := cellInv EW (wires m ρ) (K (p, 0)) (barCell p)
abbrev invSend (p : Dev nD) (k : Fin 3) : sProp 𝕄 := cellInv EW (wires m ρ) (K (p, ixS k)) (sendCell p k)
abbrev invRecv (p : Dev nD) (k : Fin 3) : sProp 𝕄 := cellInv EW (wires m ρ) (K (p, ixR k)) (recvCell p k)

omit [FloatOps F] in
/-- Slot `k + 1` of `c` is what `c` brings to the barrier of the device that writes it. -/
theorem barPay_of (k : Fin 3) (f : CommBuf (F := F) c) :
    iprop(slotPts c k.rev.succ fullShare f ∗ reached EW (recvCell c k.rev) 0) ⊢ (barPay (peer c k) k.rev : sProp 𝕄) := by
  unfold barPay
  rw [peer_rev]
  iintro ⟨H, Hr⟩
  isplitl [H]
  · iexists f; iexact H
  · iexact Hr

/-- Device `c` runs `p` and ends in `Q`. -/
abbrev runs {α : Type} (Q : α → sProp 𝕄) (p : Prog (TpuEff nD τ sig (Elt F) Λ₀ .tc) α) : sProp 𝕄 :=
  wp frame (wpE (defs₀ (F := F)) 𝒱₀ (c : Thread nD τ) none) Set.univ p Q

section Rules
variable {α : Type} {Q : α → sProp (MT nD τ sig Unit (Elt F) ℕ UU ℕ)} {kt : PUnit → Prog (TpuEff nD τ sig (Elt F) Λ₀ .tc) α}

theorem step_signal (k : Fin 3) (n : Dev nD) (hn : n = peer c k) (O : CellTallies nD τ sig Unit) {O' : CellTallies nD τ sig Unit}
    (hO : O' = O + tallyAt (barCell (peer c k)) () 1) (f : CommBuf (F := F) c) :
    iprop(invBar m ρ K (peer c k) ∗ owing c O' ∗ dutyTok EW (barCell (peer c k)) 0 k.rev
        ∗ slotPts c k.rev.succ fullShare f ∗ reached EW (recvCell c k.rev) 0 ∗ reached EW (barCell (peer c k)) 0)
      ⊢ iprop((owing c O -∗ runs c Q (kt ⟨⟩)) -∗ runs c Q (.op (.semSignal (n : Thread nD τ) barS 1) kt)) := by
  subst hn
  unfold owing
  iintro ⟨#HI, ⟨%W, HO⟩, Ht, Hs, Hr, Hb⟩ Hk
  iapply (Rounds.wp_signal 𝒱₀ EW (wires m ρ) (c : Thread nD τ) none (dst := (peer c k : Thread nD τ)) (κ := K (peer c k, 0))
      (d := k.rev) (by rw [duties_bar]; exact Finset.mem_univ _) (amount_bar m ρ (peer c k) k.rev) () O hO (W := W)) $$ [HO Ht Hs Hr Hb]
  · isplitr; · iexact HI
    isplitl [HO]; · iexact HO
    isplitl [Ht]; · iexact Ht
    isplitl [Hs Hr]
    · rw [payload_bar]
      iapply (barPay_of c k f)
      isplitl [Hs] <;> iassumption
    · iexact Hb
  iintro HO
  iapply Hk
  iexists W; iexact HO

theorem step_barrier :
    iprop(invBar m ρ K c ∗ cred (tallyAt (barCell c) () 3) ∗ owing c (oweR0 c) ∗ levAts L lv ∗ atPos EW (barCell c) 0 ∅ 0)
      ⊢ iprop(((owing c (oweR0 c) ∗ atPos EW (barCell c) (0 + 1) ∅ 0 ∗ barPay c 0 ∗ barPay c 1 ∗ barPay c 2) -∗ runs c Q (kt ⟨⟩))
          -∗ runs c Q (.op (.semWait barS 3) kt)) := by
  unfold owing
  iintro ⟨#HI, Hc, ⟨%W, HO⟩, #Hlev, Hat⟩ Hk
  iapply (Rounds.wp_wait_rest_token 𝒱₀ EW (wires m ρ) (c : Thread nD τ) none (κ := K (c, 0))
      (wpE_semWait_eq 𝒱₀ (c : Thread nD τ) none Set.univ) (Set.mem_univ _) () (O := oweR0 c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]
  · iexists _; iexact HO
  isplitl [Hat]; · iexact Hat
  rw [← rest_bar m ρ c]; iexact Hpay

omit [FloatOps F] in
theorem credit_slot (d : Fin 4) (q : DmaSem sig) : (slotM d).view.amount (.dma q) = N := rfl

theorem landing_payload (k : Fin 3) (fd : CommBuf (F := F) (peer c k)) :
    ((slotM k.succ).view.loc (peer c k : Thread nD τ) ↦[(slotM k.succ).view.set]{fullShare}
        ((slotM k.succ).view.write (Elt F) fd ((slotM 0).view.read (Elt F) (filled m ρ c 0 c)) Finset.univ))
      ⊢ (wires m ρ).payload (recvCell (peer c k) k) 0 0 := by
  rw [payload_recv]; unfold recvPay; rw [src_peer]
  exact Entails.of_eq (slotPts_of_read (c := peer c k) (d := k.succ) (by rw [read_filled, View.read_write_univ, read_filled]))

theorem sending_payload (k : Fin 3) :
    ((slotM 0).view.loc (c : Thread nD τ) ↦[(slotM 0).view.set]{lent k} (filled m ρ c 0 c))
      ⊢ (wires m ρ).payload (sendCell c k) 0 0 := by
  rw [payload_send]; exact BI.Entails.refl _

theorem send_rule (k : Fin 3) (O : CellTallies nD τ sig Unit) {O' : CellTallies nD τ sig Unit}
    (hO : O' = O + tallyAt (recvCell (peer c k) k) () N) (W : Waits sig Unit) (fd : CommBuf (F := F) (peer c k))
    {hsc : (slotM k.succ : Memref sig (Dev.tc (peer c k) : Thread nD τ).2.kind .vmem S8x128 .f32).view.ref.isScScratch = false}
    {hsrc : (slotM 0).view.WordExact} {hdst : (slotM k.succ).view.WordExact}
    {hsem : DmaTarget.Typed .vmem (.dma (recvS k)) (.remote (Dev.tc (peer c k) : Thread nD τ) (slotM k.succ) (.dma (sendS k)) hsc)} :
    iprop(invSend m ρ K c k ∗ invRecv m ρ K (peer c k) k
        ∗ slotPts c 0 (lent k) (filled m ρ c 0 c) ∗ slotPts (peer c k) k.succ fullShare fd
        ∗ owes (c : Thread nD τ) O' W
        ∗ dutyTok EW (sendCell c k) 0 0 ∗ reached EW (sendCell c k) 0
        ∗ dutyTok EW (recvCell (peer c k) k) 0 0 ∗ reached EW (recvCell (peer c k) k) 0)
      ⊢ iprop(((cred (tallyAt (sendCell c k) () N) ∗ owes (c : Thread nD τ) O W) -∗ runs c Q (kt ⟨⟩))
          -∗ runs c Q (.op (.enqueueDma (slotM 0) (.remote (Dev.tc (peer c k) : Thread nD τ) (slotM k.succ) (.dma (sendS k)) hsc) (.dma (recvS k)) hsrc hdst hsem) kt)) := by
  unfold slotPts
  exact Rounds.wp_send_pointsTo 𝒱₀ EW (wires m ρ) (c : Thread nD τ) none (c' := (Dev.tc (peer c k) : Thread nD τ)) (src := slotM 0) (dst := slotM k.succ)
    (sS := .dma (sendS k)) (sem := .dma (recvS k)) (fs := filled m ρ c 0 c) (q := lent k) (κ₁ := K (c, ixS k)) (κ₂ := K (peer c k, ixR k))
    (r₁ := 0) (r₂ := 0) (d₁ := 0) (d₂ := 0) (fd := fd)
    (by rw [duties_dma]; exact Finset.mem_singleton_self _) (by rw [duties_dma]; exact Finset.mem_singleton_self _)
    () () N (credit_slot k.succ (recvS k)) (amount_dma m ρ c (sendS k) 0) (amount_dma m ρ (peer c k) (recvS k) 0) O hO (W := W)
    (sending_payload m ρ c k) (landing_payload m ρ c k fd)

theorem step_send (k : Fin 3) (n : Dev nD) (hn : n = peer c k) (O : CellTallies nD τ sig Unit) {O' : CellTallies nD τ sig Unit}
    (hO : O' = O + tallyAt (recvCell (peer c k) k) () N)
    {hsc : (slotM k.succ : Memref sig (Dev.tc n : Thread nD τ).2.kind .vmem S8x128 .f32).view.ref.isScScratch = false}
    {hsrc : (slotM 0).view.WordExact} {hdst : (slotM k.succ).view.WordExact}
    {hsem : DmaTarget.Typed .vmem (.dma (recvS k)) (.remote (Dev.tc n : Thread nD τ) (slotM k.succ) (.dma (sendS k)) hsc)} :
    iprop(invSend m ρ K c k ∗ invRecv m ρ K (peer c k) k
        ∗ slotPts c 0 (lent k) (filled m ρ c 0 c) ∗ barPay c k ∗ owing c O'
        ∗ dutyTok EW (sendCell c k) 0 0 ∗ reached EW (sendCell c k) 0 ∗ dutyTok EW (recvCell (peer c k) k) 0 0)
      ⊢ iprop(((cred (tallyAt (sendCell c k) () N) ∗ owing c O) -∗ runs c Q (kt ⟨⟩))
          -∗ runs c Q (.op (.enqueueDma (slotM 0) (.remote (Dev.tc n : Thread nD τ) (slotM k.succ) (.dma (sendS k)) hsc) (.dma (recvS k)) hsrc hdst hsem) kt)) := by
  subst hn
  unfold owing barPay
  iintro ⟨#HIs, #HIr, Hsrc, ⟨⟨%fd, Hdst⟩, #Hrr⟩, ⟨%W, HO⟩, Hts, #Hrs, Htr⟩ Hk
  iapply (send_rule m ρ K c k O hO W fd) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- A wait on one of the copies' semaphores, nothing owed. -/
theorem step_dma (q : DmaSem sig) (κ : ℕ) (P : sProp 𝕄)
    (hP : bigSep ((wires (F := F) m ρ).duties ((c : Thread nD τ), .dma q) 0 \ ∅) (fun d => (wires (F := F) m ρ).payload ((c : Thread nD τ), .dma q) 0 d) = P)
    (a b : Fin 4) {ha : (slotM a).view.WordExact} {hb : (slotM b).view.WordExact} :
    iprop(cellInv EW (wires m ρ) κ ((c : Thread nD τ), .dma q) ∗ cred (tallyAt ((c : Thread nD τ), .dma q) () N) ∗ owing c 0
        ∗ atPos EW ((c : Thread nD τ), .dma q) 0 ∅ 0)
      ⊢ iprop(((owing c 0 ∗ atPos EW ((c : Thread nD τ), .dma q) (0 + 1) ∅ 0 ∗ P) -∗ runs c Q (kt ⟨⟩))
          -∗ runs c Q (.op (.waitDma2 q (slotM a) (slotM b) ha hb) kt)) := by
  unfold owing
  iintro ⟨#HI, Hc, ⟨%W, HO⟩, Hat⟩ Hk
  iapply (Rounds.wp_wait_rest_token 𝒱₀ EW (wires m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_dma])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]
  · iexists _; iexact HO
  isplitl [Hat]; · iexact Hat
  rw [← hP]; iexact Hpay

theorem step_recv (k : Fin 3) (a b : Fin 4) {ha : (slotM a).view.WordExact} {hb : (slotM b).view.WordExact} :
    iprop(invRecv m ρ K c k ∗ cred (tallyAt (recvCell c k) () N) ∗ owing c 0 ∗ atPos EW (recvCell c k) 0 ∅ 0)
      ⊢ iprop(((owing c 0 ∗ atPos EW (recvCell c k) (0 + 1) ∅ 0 ∗ slotPts c k.succ fullShare (filled m ρ c k.succ (src c k))) -∗ runs c Q (kt ⟨⟩))
          -∗ runs c Q (.op (.waitDma2 (recvS k) (slotM a) (slotM b) ha hb) kt)) :=
  step_dma m ρ c (recvS k) (K (c, ixR k)) _ (rest_recv m ρ c k) a b

theorem step_sent (k : Fin 3) (a b : Fin 4) {ha : (slotM a).view.WordExact} {hb : (slotM b).view.WordExact} :
    iprop(invSend m ρ K c k ∗ cred (tallyAt (sendCell c k) () N) ∗ owing c 0 ∗ atPos EW (sendCell c k) 0 ∅ 0)
      ⊢ iprop(((owing c 0 ∗ atPos EW (sendCell c k) (0 + 1) ∅ 0 ∗ slotPts c 0 (lent k) (filled m ρ c 0 c)) -∗ runs c Q (kt ⟨⟩))
          -∗ runs c Q (.op (.waitDma2 (sendS k) (slotM a) (slotM b) ha hb) kt)) :=
  step_dma m ρ c (sendS k) (K (c, ixS k)) _ (rest_send m ρ c k) a b

/-- A read of slot `d`, held at any share. -/
theorem step_load_slot {kt : (S1x8x128.Idx → Elt F .f32) → Prog (TpuEff nD τ sig (Elt F) Λ₀ .tc) α} (d : Fin 4) (q : PosShare TreeShare) (f : CommBuf (F := F) c)
    {hl : commM.view.LoadsAt (rS d).toLoadRect} :
    slotPts c d q f
      ⊢ iprop((slotPts c d q f -∗ runs c Q (kt (commM.view.readAt (Elt F) (rS d).toLoadRect f)))
          -∗ runs c Q (.op (.load commM (rS d).toLoadRect hl) kt)) := by
  unfold slotPts
  exact wp_load 𝒱₀ (c : Thread nD τ) none Set.univ (m := commM) (r := (rS d).toLoadRect)
    (by
      show commM.view.setOn (rS d).set ⊆ slotSet d
      rw [slot_set]
      exact Finset.map_subset_iff_subset_preimage.mpr (fun x hx => Finset.mem_preimage.mpr hx))

theorem step_store_slot0 {w : S1x8x128.Idx → Elt F .f32} (hw : w = sums m ρ c) (f : CommBuf (F := F) c) {hx : (commM.access (rS 0)).Stores Finset.univ}
    {hm : (Finset.univ : Finset (rS 0).shape.Idx) = Finset.univ ∨ ∀ a, (rS 0).stride a = 1} :
    slotPts c 0 fullShare f
      ⊢ iprop((slotPts c 0 fullShare (filled m ρ c 0 c) -∗ runs c Q (kt ⟨⟩))
          -∗ runs c Q (.op (.store commM (rS 0) w Finset.univ hx hm) kt)) := by
  subst hw
  have h : slotPts c 0 fullShare (filled m ρ c 0 c) = slotPts (F := F) c 0 fullShare ((commM.access (rS 0)).write (Elt F) f (sums m ρ c) Finset.univ) := by
    refine slotPts_of_read ?_
    rw [read_filled]
    funext x
    show own m ρ c x = (commM.access (rS 0)).read (Elt F) ((commM.access (rS 0)).write (Elt F) f (sums m ρ c) Finset.univ) (Shape.reshapeEquiv _ x)
    rw [View.read_write_univ]; rfl
  rw [h]
  unfold slotPts
  exact wp_store 𝒱₀ (c : Thread nD τ) none Set.univ (m := commM) (r := rS 0) (Mk := Finset.univ)
    (by
      show (commM.access (rS 0)).set ⊆ slotSet 0
      rw [slot_set]
      exact (View.set_slice_whole cc0_scratch0 (rS 0)).le)

end Rules

end Cert.RowNorm

end
-- ==== Proof.Point.lean ====
/-
# The kernel's one grid point

What a device starts from and ends with, and the run of the kernel between the two, at any device.
-/
module

public import proofs.«01_k».proof.Proof.Steps
public import proofs.«01_k».proof.Proof.Gen.KernelIdeal.Points

@[expose] public section

noncomputable section

namespace Cert.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's result on device `c`: its block scaled by gamma and by the root of the mean of all four devices' row sums. -/
def outAt (c : Dev nD) : (cc0_stg2_0 : Ref sig .tc).ty.Contents (Elt F) :=
  k0_pay5 (k0_pay3 (k0_pay1 (xstg m ρ c)) (gstg m ρ c)) (k0_pay4 (sums m ρ c) (sums m ρ (src c 0)) (sums m ρ (src c 1))) (sums m ρ (src c 2))

/-! ## What a device holds -/

section Ghost
variable (K : Dev nD × Fin 7 → ℕ)

/-- Everything device `c` holds for transfer `k`: the four cells' invariants it opens, the marks and the tokens it pays with, its
    positions at its own two cells of the transfer. -/
def lane (c : Dev nD) (k : Fin 3) : sProp 𝕄 :=
  iprop((invBar m ρ K (peer c k) ∗ invSend m ρ K c k ∗ invRecv m ρ K c k ∗ invRecv m ρ K (peer c k) k)
    ∗ (reached EW (barCell (peer c k)) 0 ∗ reached EW (sendCell c k) 0 ∗ reached EW (recvCell c k) 0)
    ∗ (dutyTok EW (barCell (peer c k)) 0 k.rev ∗ dutyTok EW (sendCell c k) 0 0 ∗ dutyTok EW (recvCell (peer c k) k) 0 0)
    ∗ atPos EW (sendCell c k) 0 ∅ 0 ∗ atPos EW (recvCell c k) 0 ∅ 0)

def ghost (c : Dev nD) : sProp 𝕄 :=
  iprop(invBar m ρ K c ∗ atPos EW (barCell c) 0 ∅ 0 ∗ lane m ρ K c 0 ∗ lane m ρ K c 1 ∗ lane m ρ K c 2)

end Ghost

/-- The credit device `c` starts with: its barrier's three units, its three landings. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m ρ K c) ∗ credits c ∗ levAts L lv)

/-- Device `c`'s scratch, whatever it holds. -/
def anyComm (c : Dev nD) : sProp 𝕄 := iprop(∃ f : CommBuf (F := F) c, ((c : Thread nD τ).loc cc0_scratch0) ↦{fullShare} f)

def Φ₀ (c : Dev nD) : sProp 𝕄 := iprop(start m ρ c ∗ anyComm c)

/-- The cells at zero, closed. -/
def closed (c : Dev nD) : sProp 𝕄 :=
  iprop(semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0))

def Φ₁ (c : Dev nD) : sProp 𝕄 := iprop(anyComm (F := F) c ∗ closed (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => oweB0 c
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The loads and the store of the staging buffers -/

section Staging
variable (c : Dev nD)

abbrev rX : Rect S1024x512 := Rect.unit (s := S1024x512) ![0, 0] S1024x512.size inb_S1024x512_S1024x512_0_0
abbrev rG : Rect S512 := Rect.unit (s := S512) ![0] S512.size inb_S512_S512_0

omit [FloatOps F] in
theorem read_x (f : (cc0_stg0_0 : Ref sig .tc).ty.Contents (Elt F)) : xM.view.readAt (Elt F) rX.toLoadRect f = f :=
  Memref.readAt_unit_zero (Elt F) cc0_stg0_0 (funext fun a => by fin_cases a <;> rfl) _ f
omit [FloatOps F] in
theorem read_g (f : (cc0_stg1_0 : Ref sig .tc).ty.Contents (Elt F)) : gM.view.readAt (Elt F) rG.toLoadRect f = f :=
  Memref.readAt_unit_zero (Elt F) cc0_stg1_0 (funext fun a => by fin_cases a; rfl) _ f
omit [FloatOps F] in
theorem write_out (f w : (cc0_stg2_0 : Ref sig .tc).ty.Contents (Elt F)) :
    (oM.access (rX : Rect S1024x512)).write (Elt F) f w Finset.univ = w :=
  Memref.write_access_unit_zero_univ (Elt F) cc0_stg2_0 (funext fun a => by fin_cases a <;> rfl) _ f w

end Staging

/-! ## The run of the kernel -/

section Body
variable (K : Dev nD × Fin 7 → ℕ) (c : Dev nD)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(((ghost m ρ K c ∗ credits (F := F) c ∗ levAts L lv) ∗ anyComm (F := F) c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost : sProp 𝕄 :=
  iprop(Φ₁ (F := F) c ∗ (dats m ρ 0 c).owesAt () t₀.succ ∗ stg c cc0_stg0_0 (xstg m ρ c) ∗ stg c cc0_stg1_0 (gstg m ρ c)
    ∗ stg c cc0_stg2_0 (outAt m ρ c))

/-- The scratch back whole from what the copies gave back. -/
theorem comm_back :
    iprop((slotPts c 0 kept (filled m ρ c 0 c) ∗ slotPts c 0 (lent 0) (filled m ρ c 0 c) ∗ slotPts c 0 (lent 1) (filled m ρ c 0 c)
        ∗ slotPts c 0 (lent 2) (filled m ρ c 0 c))
      ∗ slotPts c (Fin.succ 0) fullShare (filled m ρ c (Fin.succ 0) (src c 0)) ∗ slotPts c (Fin.succ 1) fullShare (filled m ρ c (Fin.succ 1) (src c 1))
      ∗ slotPts c (Fin.succ 2) fullShare (filled m ρ c (Fin.succ 2) (src c 2))) ⊢ anyComm (F := F) c := by
  unfold anyComm
  iintro ⟨H0, H1, H2, H3⟩
  iapply (comm_join c)
  isplitl [H0]
  · iexists _; iapply (slot0_shares c (filled m ρ c 0 c)).2; iexact H0
  isplitl [H1]; · iexists _; iexact H1
  isplitl [H2]; · iexists _; iexact H2
  iexists _; iexact H3

set_option maxHeartbeats 3200000 in
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost lane credits anyComm
  iintro ⟨⟨⟨⟨⟨#HIB, HatB, ⟨⟨#HB0, #HS0, #HR0, #HP0⟩, ⟨#rB0, #rS0, #rR0⟩, ⟨tB0, tS0, tR0⟩, aS0, aR0⟩,
      ⟨⟨#HB1, #HS1, #HR1, #HP1⟩, ⟨#rB1, #rS1, #rR1⟩, ⟨tB1, tS1, tR1⟩, aS1, aR1⟩,
      ⟨⟨#HB2, #HS2, #HR2, #HP2⟩, ⟨#rB2, #rS2, #rR2⟩, ⟨tB2, tS2, tR2⟩, aS2, aR2⟩⟩,
      ⟨cB, cR0, cR1, cR2⟩, #Hlev⟩, ⟨%f0, Hscr⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch0_0 t₀)]; rfl
  have hg : g1 = gstg m ρ c := by rw [hg1]; unfold Dat.before; rw [if_pos (fetch0_1 t₀)]; rfl
  subst hx hg
  unfold Dat.owesAt Pipeline.owesWithin
  icases Ho with ⟨%W, %hW, HO⟩
  rw [show (dats m ρ 0 c).owed t₀.castSucc = oweB0 c from rfl]
  simp only [dev1_eq c, dev2_eq c, dev3_eq c]
  ihave Hscr := (Entails.of_eq (comm_split c f0)) $$ Hscr
  icases Hscr with ⟨s0, s1, s2, s3⟩
  ihave HO := (owing_of c (oweB0 c) W) $$ HO
  -- the three signals, each with the slot the signalled device writes
  iapply (step_signal m ρ K c 0 _ rfl (oweB1 c) rfl f0) $$ [HO tB0 s3]
  · isplitr; · iexact HB0
    isplitl [HO]; · iexact HO
    isplitl [tB0]; · iexact tB0
    isplitl [s3]; · iexact s3
    isplitr; · iexact rR2
    iexact rB0
  iintro HO
  iapply (step_signal m ρ K c 1 _ rfl (oweB2 c) rfl f0) $$ [HO tB1 s2]
  · isplitr; · iexact HB1
    isplitl [HO]; · iexact HO
    isplitl [tB1]; · iexact tB1
    isplitl [s2]; · iexact s2
    isplitr; · iexact rR1
    iexact rB1
  iintro HO
  iapply (step_signal m ρ K c 2 _ rfl (oweR0 c) rfl f0) $$ [HO tB2 s1]
  · isplitr; · iexact HB2
    isplitl [HO]; · iexact HO
    isplitl [tB2]; · iexact tB2
    isplitl [s1]; · iexact s1
    isplitr; · iexact rR0
    iexact rB2
  iintro HO
  -- its own row sums into slot 0
  iapply (wp_load 𝒱₀ (c : Thread nD τ) none Set.univ (m := xM) (Finset.subset_univ _)) $$ Hx; iintro Hx
  rw [read_x]
  iapply (step_load_slot c 0 fullShare f0) $$ s0; iintro s0
  iapply (step_store_slot0 m ρ c rfl f0) $$ s0; iintro s0
  -- the barrier
  iapply (step_barrier m ρ K c) $$ [cB HO HatB]
  · isplitr; · iexact HIB
    isplitl [cB]; · iexact cB
    isplitl [HO]; · iexact HO
    isplitr; · iexact Hlev
    iexact HatB
  iintro ⟨HO, HatB, b0, b1, b2⟩
  ihave s0 := (slot0_shares c (filled m ρ c 0 c)).1 $$ s0
  icases s0 with ⟨sk, l0, l1, l2⟩
  -- the three copies
  iapply (step_send m ρ K c 0 _ (dev4_eq c) (oweR1 c) rfl) $$ [HO l0 b0 tS0 tR0]
  · isplitr; · iexact HS0
    isplitr; · iexact HP0
    isplitl [l0]; · iexact l0
    isplitl [b0]; · iexact b0
    isplitl [HO]; · iexact HO
    isplitl [tS0]; · iexact tS0
    isplitr; · iexact rS0
    iexact tR0
  iintro ⟨cS0, HO⟩
  iapply (step_send m ρ K c 1 _ (dev5_eq c) (oweR2 c) rfl) $$ [HO l1 b1 tS1 tR1]
  · isplitr; · iexact HS1
    isplitr; · iexact HP1
    isplitl [l1]; · iexact l1
    isplitl [b1]; · iexact b1
    isplitl [HO]; · iexact HO
    isplitl [tS1]; · iexact tS1
    isplitr; · iexact rS1
    iexact tR1
  iintro ⟨cS1, HO⟩
  iapply (step_send m ρ K c 2 _ (dev6_eq c) 0 rfl) $$ [HO l2 b2 tS2 tR2]
  · isplitr; · iexact HS2
    isplitr; · iexact HP2
    isplitl [l2]; · iexact l2
    isplitl [b2]; · iexact b2
    isplitl [HO]; · iexact HO
    isplitl [tS2]; · iexact tS2
    isplitr; · iexact rS2
    iexact tR2
  iintro ⟨cS2, HO⟩
  iapply (wp_load 𝒱₀ (c : Thread nD τ) none Set.univ (m := gM) (Finset.subset_univ _)) $$ Hg; iintro Hg
  rw [read_g]
  -- the three landings
  iapply (step_recv m ρ K c 0 0 1) $$ [HO cR0 aR0]
  · isplitr; · iexact HR0
    isplitl [cR0]; · iexact cR0
    isplitl [HO] <;> iassumption
  iintro ⟨HO, aR0, s1⟩
  iapply (step_recv m ρ K c 1 0 2) $$ [HO cR1 aR1]
  · isplitr; · iexact HR1
    isplitl [cR1]; · iexact cR1
    isplitl [HO] <;> iassumption
  iintro ⟨HO, aR1, s2⟩
  iapply (step_recv m ρ K c 2 0 3) $$ [HO cR2 aR2]
  · isplitr; · iexact HR2
    isplitl [cR2]; · iexact cR2
    isplitl [HO] <;> iassumption
  iintro ⟨HO, aR2, s3⟩
  -- the four slots read
  iapply (step_load_slot c 0 kept (filled m ρ c 0 c)) $$ sk; iintro sk
  rw [readAt_filled]
  iapply (step_load_slot c (Fin.succ 0) fullShare (filled m ρ c (Fin.succ 0) (src c 0))) $$ s1; iintro s1
  rw [readAt_filled]
  iapply (step_load_slot c (Fin.succ 1) fullShare (filled m ρ c (Fin.succ 1) (src c 1))) $$ s2; iintro s2
  rw [readAt_filled]
  iapply (step_load_slot c (Fin.succ 2) fullShare (filled m ρ c (Fin.succ 2) (src c 2))) $$ s3; iintro s3
  rw [readAt_filled]
  -- the result
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  -- its own copies read
  iapply (step_sent m ρ K c 0 1 0) $$ [HO cS0 aS0]
  · isplitr; · iexact HS0
    isplitl [cS0]; · iexact cS0
    isplitl [HO] <;> iassumption
  iintro ⟨HO, aS0, l0⟩
  iapply (step_sent m ρ K c 1 2 0) $$ [HO cS1 aS1]
  · isplitr; · iexact HS1
    isplitl [cS1]; · iexact cS1
    isplitl [HO] <;> iassumption
  iintro ⟨HO, aS1, l1⟩
  iapply (step_sent m ρ K c 2 3 0) $$ [HO cS2 aS2]
  · isplitr; · iexact HS2
    isplitl [cS2]; · iexact cS2
    isplitl [HO] <;> iassumption
  iintro ⟨HO, aS2, l2⟩
  -- the cells close
  imod (Rounds.cell_close EW (wires m ρ) (Set.mem_univ (K (c, 0))) (fun h => h) (R := 0 + 1) (duties_later m ρ (barCell c))) $$ [HatB] with zB
  · isplitr <;> iassumption
  imod (Rounds.cell_close EW (wires m ρ) (Set.mem_univ (K (c, ixS 0))) (fun h => h) (R := 0 + 1) (duties_later m ρ (sendCell c 0))) $$ [aS0] with zS0
  · isplitr <;> iassumption
  imod (Rounds.cell_close EW (wires m ρ) (Set.mem_univ (K (c, ixS 1))) (fun h => h) (R := 0 + 1) (duties_later m ρ (sendCell c 1))) $$ [aS1] with zS1
  · isplitr <;> iassumption
  imod (Rounds.cell_close EW (wires m ρ) (Set.mem_univ (K (c, ixS 2))) (fun h => h) (R := 0 + 1) (duties_later m ρ (sendCell c 2))) $$ [aS2] with zS2
  · isplitr <;> iassumption
  imod (Rounds.cell_close EW (wires m ρ) (Set.mem_univ (K (c, ixR 0))) (fun h => h) (R := 0 + 1) (duties_later m ρ (recvCell c 0))) $$ [aR0] with zR0
  · isplitr <;> iassumption
  imod (Rounds.cell_close EW (wires m ρ) (Set.mem_univ (K (c, ixR 1))) (fun h => h) (R := 0 + 1) (duties_later m ρ (recvCell c 1))) $$ [aR1] with zR1
  · isplitr <;> iassumption
  imod (Rounds.cell_close EW (wires m ρ) (Set.mem_univ (K (c, ixR 2))) (fun h => h) (R := 0 + 1) (duties_later m ρ (recvCell c 2))) $$ [aR2] with zR2
  · isplitr <;> iassumption
  rw [write_out, wp_ret]; imodintro
  iapply Hk
  unfold bodyPost Φ₁ closed Dat.owesAt Pipeline.owesWithin
  rw [show (dats m ρ 0 c).owed t₀.succ = 0 from rfl]
  isplitl [sk l0 l1 l2 s1 s2 s3 zB zS0 zS1 zS2 zR0 zR1 zR2]
  · isplitl [sk l0 l1 l2 s1 s2 s3]
    · iapply (comm_back m ρ c)
      isplitl [sk l0 l1 l2]
      · isplitl [sk]; · iexact sk
        isplitl [l0]; · iexact l0
        isplitl [l1]; · iexact l1
        iexact l2
      isplitl [s1]; · iexact s1
      isplitl [s2]; · iexact s2
      iexact s3
    isplitl [zB]; · iexact zB
    isplitl [zS0 zS1 zS2]
    · isplitl [zS0]; · iexact zS0
      isplitl [zS1] <;> iassumption
    isplitl [zR0]; · iexact zR0
    isplitl [zR1] <;> iassumption
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Body

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

set_option maxRecDepth 4000 in
/-- The kernel's obligation at its point. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Hr⟩
  iapply (sound_body m ρ K c fun _ => bodyPost m ρ c)
  unfold bodyPre
  isplitr []
  · isplitl [Hg Hrest Hscr]
    · isplitl [Hg Hrest]
      · isplitl [Hg] <;> iassumption
      iexact Hscr
    iexact Hr
  · iintro H; iexact H

end Cert.RowNorm

end
-- ==== Proof.Run.lean ====
/-
# The run of the program

From the kernel's obligation at its point to the run of the whole program on the four devices: dealing the wires' ghost
state and credit at the launch, and what the memory holds at the end.
-/
module

public import proofs.«01_k».proof.Proof.Point
public import Idealize.ShloMosaic.Lib.Pipeline.CollectiveSegs
public import Idealize.ShloMosaic.Lib.Pipeline.Value

@[expose] public section

noncomputable section

namespace Cert.RowNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem csem_injective : Function.Injective csem := by decide

theorem kcell_injective : Function.Injective (kcell : Dev nD × Fin 7 → GSem nD τ sig) := by
  rintro ⟨c, i⟩ ⟨c', i'⟩ h
  have h1 : c = c' := congrArg (fun g : GSem nD τ sig => g.1.1) h
  have h2 : i = i' := csem_injective (congrArg Prod.snd h)
  rw [h1, h2]
def wireCells : Finset (GSem nD τ sig) := Finset.univ.map ⟨kcell, kcell_injective⟩

/-- A duty of one of a device's own cells: its barrier's, its copies' ends, its landings. -/
abbrev dutyOf (j : Fin 3 × Fin 3) : SemLoc sig × Fin 3 := match j.1 with
  | 0 => (.reg barS, j.2) | 1 => (.dma (sendS j.2), 0) | 2 => (.dma (recvS j.2), 0)
theorem dutyOf_injective : Function.Injective dutyOf := by decide
abbrev tokOf (cj : Dev nD × Fin 3 × Fin 3) : GSem nD τ sig × ℕ × Fin 3 := (((cj.1 : Thread nD τ), (dutyOf cj.2).1), 0, (dutyOf cj.2).2)
theorem tokOf_injective : Function.Injective tokOf := by
  rintro ⟨c, j⟩ ⟨c', j'⟩ h
  have h1 : c = c' := congrArg (fun x : GSem nD τ sig × ℕ × Fin 3 => x.1.1.1) h
  have h2 : j = j' := dutyOf_injective (congrArg (fun x : GSem nD τ sig × ℕ × Fin 3 => (x.1.2, x.2.2)) h)
  rw [h1, h2]
def wireToks : Finset (GSem nD τ sig × ℕ × Fin 3) := Finset.univ.map ⟨tokOf, tokOf_injective⟩

def u₀ : UU :=
  (initOf (Pipeline.cells cfgs cellOf_inj) (Pipeline.launchToks cfgs cellOf_inj), initOf wireCells wireToks)

/-- The tokens of the duties of `c`'s own cells. -/
def toks (c : Dev nD) : sProp 𝕄 :=
  iprop((bigSep Finset.univ fun k : Fin 3 => dutyTok EW (barCell c) 0 k) ∗ (bigSep Finset.univ fun k : Fin 3 => dutyTok EW (sendCell c k) 0 0)
    ∗ (bigSep Finset.univ fun k : Fin 3 => dutyTok EW (recvCell c k) 0 0))

/-- The tokens of the duties `c` pays. -/
def payToks (c : Dev nD) : sProp 𝕄 :=
  iprop((bigSep Finset.univ fun k : Fin 3 => dutyTok EW (barCell (peer c k)) 0 k.rev) ∗ (bigSep Finset.univ fun k : Fin 3 => dutyTok EW (sendCell c k) 0 0)
    ∗ (bigSep Finset.univ fun k : Fin 3 => dutyTok EW (recvCell (peer c k) k) 0 0))

/-- Where `c`'s signal `k` goes, and which duty it is there. -/
def across : Dev nD × Fin 3 ≃ Dev nD × Fin 3 where
  toFun p := (peer p.1 p.2, p.2.rev)
  invFun p := (peer p.1 p.2, p.2.rev)
  left_inv p := by rcases p with ⟨c, k⟩; exact Prod.ext (peer_rev c k) (Fin.rev_rev k)
  right_inv p := by rcases p with ⟨c, k⟩; exact Prod.ext (peer_rev c k) (Fin.rev_rev k)
/-- Where `c`'s copy `k` goes. -/
def along : Dev nD × Fin 3 ≃ Dev nD × Fin 3 where
  toFun p := (peer p.1 p.2, p.2)
  invFun p := (src p.1 p.2, p.2)
  left_inv p := by rcases p with ⟨c, k⟩; exact Prod.ext (src_peer c k) rfl
  right_inv p := by rcases p with ⟨c, k⟩; exact Prod.ext (peer_src c k) rfl

omit [FloatOps F] in
/-- The tokens dealt to those who pay. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 3 => (dutyTok EW (barCell p.1) 0 p.2 : sProp 𝕄)),
    ← bigSep_univ_prod (fun p : Dev nD × Fin 3 => (dutyTok EW (recvCell p.1 p.2) 0 0 : sProp 𝕄)),
    ← bigSep_univ_prod (fun p : Dev nD × Fin 3 => (dutyTok EW (barCell (peer p.1 p.2)) 0 p.2.rev : sProp 𝕄)),
    ← bigSep_univ_prod (fun p : Dev nD × Fin 3 => (dutyTok EW (recvCell (peer p.1 p.2) p.2) 0 0 : sProp 𝕄)),
    bigSep_univ_equiv across (fun p : Dev nD × Fin 3 => (dutyTok EW (barCell p.1) 0 p.2 : sProp 𝕄)),
    bigSep_univ_equiv along (fun p : Dev nD × Fin 3 => (dutyTok EW (recvCell p.1 p.2) 0 0 : sProp 𝕄))]
  exact BI.Entails.refl _

/-! ## What each device is dealt -/

def G (c : Dev nD) : sProp 𝕄 :=
  iprop((bigSep Finset.univ fun i : Fin 7 => roundState EW (wires m ρ) (kcell (c, i)) 0)
    ∗ (bigSep Finset.univ fun i : Fin 7 => iprop(atPos EW (kcell (c, i)) 0 ∅ 0 ∗ reached EW (kcell (c, i)) 0)) ∗ toks c)

def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_wires : BI.own (EW (initOf wireCells wireToks)) ⊢ (|==> bigSep Finset.univ (G m ρ) : sProp 𝕄) := by
  have hX (Φ : GSem nD τ sig → sProp 𝕄) : bigSep wireCells Φ = bigSep Finset.univ fun c : Dev nD => bigSep Finset.univ fun i : Fin 7 => Φ (kcell (c, i)) := by
    unfold wireCells; rw [bigSep_map, bigSep_univ_prod]; rfl
  have hT : bigSep wireToks (fun x => (dutyTok EW x.1 x.2.1 x.2.2 : sProp 𝕄)) = bigSep Finset.univ fun c : Dev nD => toks c := by
    unfold wireToks; rw [bigSep_map, bigSep_univ_prod]
    exact bigSep_congr fun c _ => by unfold toks; rw [bigSep_univ_prod, bigSep_fin3]; rfl
  iintro HX
  imod (Rounds.fund EW (wires m ρ) wireCells wireToks) $$ HX with ⟨Hst, Hr, Hat, Htok⟩
  imodintro
  ihave Hst' := (Entails.of_eq (hX fun g => roundState EW (wires m ρ) g 0)) $$ Hst
  ihave Hat' := (Entails.of_eq (hX fun g => atPos EW g 0 ∅ 0)) $$ Hat
  ihave Hr' := (Entails.of_eq (hX fun g => reached EW g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 7 => semVal (kcell (c, i)) 0 : sProp 𝕄) := by
  rw [ownSems0_eq, unscopedSems0_eq, bigSep_fin7]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv EW (wires m ρ) κ (kcell (c, i))))
          ∗ (bigSep Finset.univ fun i => iprop(atPos EW (kcell (c, i)) 0 ∅ 0 ∗ reached EW (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 7 => semVal (kcell (c, i)) 0) ∗ bigSep Finset.univ fun i : Fin 7 => roundState EW (wires m ρ) (kcell (c, i)) 0)
      ⊢ (|={Set.univ}=> bigSep Finset.univ fun i => iprop(∃ κ : ℕ, cellInv EW (wires m ρ) κ (kcell (c, i))) : sProp 𝕄) from by
        rw [← bigSep_sep']
        exact (bigSep_mono fun i _ => (Rounds.body_intro EW (wires m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ci : Dev nD × Fin 7 => cellInv EW (wires m ρ) (K ci) (kcell ci))
    ∗ bigSep Finset.univ fun ci : Dev nD × Fin 7 => reached EW (kcell ci) 0)

instance records_persistent (K : Dev nD × Fin 7 → ℕ) : BI.Persistent (records m ρ K) := by unfold records; infer_instance

theorem inv_of (K : Dev nD × Fin 7 → ℕ) (ci : Dev nD × Fin 7) :
    (bigSep Finset.univ fun ci : Dev nD × Fin 7 => (cellInv EW (wires m ρ) (K ci) (kcell ci) : sProp 𝕄)) ⊢ cellInv EW (wires m ρ) (K ci) (kcell ci) :=
  bigSep_elim (Finset.mem_univ ci)
theorem reached_of (ci : Dev nD × Fin 7) :
    (bigSep Finset.univ fun ci : Dev nD × Fin 7 => (reached EW (kcell ci) 0 : sProp 𝕄)) ⊢ reached EW (kcell ci) 0 :=
  bigSep_elim (Finset.mem_univ ci)
theorem inv_at (K : Dev nD × Fin 7 → ℕ) (ci : Dev nD × Fin 7) : records m ρ K ⊢ cellInv EW (wires m ρ) (K ci) (kcell ci) := by
  unfold records
  iintro ⟨H, -⟩
  iapply (inv_of m ρ K ci); iexact H
theorem reached_at (K : Dev nD × Fin 7 → ℕ) (ci : Dev nD × Fin 7) : records m ρ K ⊢ (reached EW (kcell ci) 0 : sProp 𝕄) := by
  unfold records
  iintro ⟨-, H⟩
  iapply (reached_of (F := F) ci); iexact H

theorem invS_at (K : Dev nD × Fin 7 → ℕ) (c : Dev nD) (k : Fin 3) : records m ρ K ⊢ invSend m ρ K c k := by
  have h : kcell (c, ixS k) = sendCell c k := Prod.ext rfl (csem_ixS k)
  have := inv_at m ρ K (c, ixS k); rw [h] at this; exact this
theorem invR_at (K : Dev nD × Fin 7 → ℕ) (c : Dev nD) (k : Fin 3) : records m ρ K ⊢ invRecv m ρ K c k := by
  have h : kcell (c, ixR k) = recvCell c k := Prod.ext rfl (csem_ixR k)
  have := inv_at m ρ K (c, ixR k); rw [h] at this; exact this
theorem reachedS_at (K : Dev nD × Fin 7 → ℕ) (c : Dev nD) (k : Fin 3) : records m ρ K ⊢ (reached EW (sendCell c k) 0 : sProp 𝕄) := by
  have h : kcell (c, ixS k) = sendCell c k := Prod.ext rfl (csem_ixS k)
  have := reached_at m ρ K (c, ixS k); rw [h] at this; exact this
theorem reachedR_at (K : Dev nD × Fin 7 → ℕ) (c : Dev nD) (k : Fin 3) : records m ρ K ⊢ (reached EW (recvCell c k) 0 : sProp 𝕄) := by
  have h : kcell (c, ixR k) = recvCell c k := Prod.ext rfl (csem_ixR k)
  have := reached_at m ρ K (c, ixR k); rw [h] at this; exact this

/-- A transfer's lane from the records, its tokens and its positions. -/
theorem lane_intro (K : Dev nD × Fin 7 → ℕ) (c : Dev nD) (k : Fin 3) :
    iprop(records m ρ K ∗ (dutyTok EW (barCell (peer c k)) 0 k.rev ∗ dutyTok EW (sendCell c k) 0 0 ∗ dutyTok EW (recvCell (peer c k) k) 0 0)
        ∗ atPos EW (sendCell c k) 0 ∅ 0 ∗ atPos EW (recvCell c k) 0 ∅ 0) ⊢ lane m ρ K c k := by
  unfold lane
  iintro ⟨#H, Ht, Ha⟩
  isplitr
  · isplitr; · iapply (inv_at m ρ K (peer c k, 0)); iexact H
    isplitr; · iapply (invS_at m ρ K c k); iexact H
    isplitr; · iapply (invR_at m ρ K c k); iexact H
    iapply (invR_at m ρ K (peer c k) k); iexact H
  isplitr
  · isplitr; · iapply (reached_at m ρ K (peer c k, 0)); iexact H
    isplitr; · iapply (reachedS_at m ρ K c k); iexact H
    iapply (reachedR_at m ρ K c k); iexact H
  isplitl [Ht]; · iexact Ht
  iexact Ha

def linear (c : Dev nD) : sProp 𝕄 := iprop((bigSep Finset.univ fun i : Fin 7 => atPos EW (kcell (c, i)) 0 ∅ 0) ∗ payToks c)

theorem ghost_intro (K : Dev nD × Fin 7 → ℕ) (c : Dev nD) : iprop(records m ρ K ∗ linear c) ⊢ G' m ρ c := by
  unfold linear payToks G' ghost
  rw [bigSep_fin7, bigSep_fin3, bigSep_fin3, bigSep_fin3]
  iintro ⟨#H, ⟨aB, aS0, aS1, aS2, aR0, aR1, aR2⟩, ⟨b0, b1, b2⟩, ⟨s0, s1, s2⟩, ⟨r0, r1, r2⟩⟩
  iexists K
  isplitr; · iapply (inv_at m ρ K (c, 0)); iexact H
  isplitl [aB]; · iexact aB
  isplitl [aS0 aR0 b0 s0 r0]
  · iapply (lane_intro m ρ K c 0)
    isplitr; · iexact H
    isplitl [b0 s0 r0]
    · isplitl [b0]; · iexact b0
      isplitl [s0] <;> iassumption
    isplitl [aS0]; · iexact aS0
    iexact aR0
  isplitl [aS1 aR1 b1 s1 r1]
  · iapply (lane_intro m ρ K c 1)
    isplitr; · iexact H
    isplitl [b1 s1 r1]
    · isplitl [b1]; · iexact b1
      isplitl [s1] <;> iassumption
    isplitl [aS1]; · iexact aS1
    iexact aR1
  iapply (lane_intro m ρ K c 2)
  isplitr; · iexact H
  isplitl [b2 s2 r2]
  · isplitl [b2]; · iexact b2
    isplitl [s2] <;> iassumption
  isplitl [aS2]; · iexact aS2
  iexact aR2

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv EW (wires m ρ) κ (kcell (c, i))))
          ∗ (bigSep Finset.univ fun i => iprop(atPos EW (kcell (c, i)) 0 ∅ 0 ∗ reached EW (kcell (c, i)) 0)) ∗ toks c) : sProp 𝕄)
      ⊢ bigSep Finset.univ (G' m ρ) := by
  rw [bigSep_sep', bigSep_sep', ← bigSep_univ_prod (fun ci : Dev nD × Fin 7 => iprop(∃ κ : ℕ, cellInv EW (wires m ρ) κ (kcell ci))),
    bigSep_congr (s := Finset.univ) (fun (c : Dev nD) _ => bigSep_sep' Finset.univ (fun i : Fin 7 => (atPos EW (kcell (c, i)) 0 ∅ 0 : sProp 𝕄)) (fun i => reached EW (kcell (c, i)) 0)),
    bigSep_sep', ← bigSep_univ_prod (fun ci : Dev nD × Fin 7 => (reached EW (kcell ci) 0 : sProp 𝕄))]
  iintro ⟨HI, ⟨Hat, #HR⟩, Htok⟩
  ihave HK := (BI.bigSep_exists_pi Finset.univ (fun (ci : Dev nD × Fin 7) (κ : ℕ) => (cellInv EW (wires m ρ) κ (kcell ci) : sProp 𝕄))) $$ HI
  icases HK with ⟨%K, #HI⟩
  ihave Htk := (toks_dealt (F := F)) $$ Htok
  iapply (bigSep_beside (R := records m ρ K) fun c _ => ghost_intro m ρ K c)
  isplitr
  · unfold records; isplitl; · iexact HI
    iexact HR
  · iapply ((Entails.of_eq (bigSep_sep' Finset.univ (fun c : Dev nD => bigSep Finset.univ fun i : Fin 7 => (atPos EW (kcell (c, i)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_eq_iff {a b : Dev nD} (q q' : SemLoc sig) : ((((a : Thread nD τ), q) : GSem nD τ sig) = ((b : Thread nD τ), q')) ↔ (a = b ∧ q = q') :=
  ⟨fun h => ⟨congrArg (fun g : GSem nD τ sig => g.1.1) h, congrArg Prod.snd h⟩, fun h => by rw [h.1, h.2]⟩

theorem recvS_inj : ∀ k j : Fin 3, recvS k = recvS j → k = j := by decide

/-- What `d` owes `c`'s barrier: a unit for each of its signals that goes there. -/
theorem owed_bar (d c : Dev nD) :
    oweB0 d (barCell c) () = (if c = peer d 2 then 1 else 0) + (if c = peer d 1 then 1 else 0) + (if c = peer d 0 then 1 else 0) := by
  have hne (k : Fin 3) : ¬ (barCell c = recvCell (peer d k) k ∧ () = ()) := fun h => nomatch ((cell_eq_iff _ _).mp h.1).2
  have hiff (k : Fin 3) : (barCell c = barCell (peer d k) ∧ () = ()) ↔ c = peer d k :=
    ⟨fun h => ((cell_eq_iff _ _).mp h.1).1, fun h => ⟨by rw [h], rfl⟩⟩
  have e (k : Fin 3) : (if barCell c = barCell (peer d k) ∧ () = () then 1 else 0) = if c = peer d k then 1 else 0 := if_congr (hiff k) rfl rfl
  rw [oweB0_apply, oweR0_apply, if_neg (hne 2), if_neg (hne 1), if_neg (hne 0), e 2, e 1, e 0]
  simp only [Nat.zero_add]

theorem one_of_three (k : Fin 3) (n : ℕ) : (if k = 2 then n else 0) + (if k = 1 then n else 0) + (if k = 0 then n else 0) = n := by
  match k with
  | 0 => exact Nat.zero_add n
  | 1 => exact Nat.zero_add n
  | 2 => rfl

theorem owed_recv (d c : Dev nD) (k : Fin 3) : oweB0 d (recvCell c k) () = if d = src c k then N else 0 := by
  have hne (j : Fin 3) : ¬ (recvCell c k = barCell (peer d j) ∧ () = ()) := fun h => nomatch ((cell_eq_iff _ _).mp h.1).2
  have hiff (j : Fin 3) : (recvCell c k = recvCell (peer d j) j ∧ () = ()) ↔ (d = src c k ∧ k = j) := by
    constructor
    · intro h
      have h' := (cell_eq_iff _ _).mp h.1
      have hk : k = j := recvS_inj k j (SemLoc.dma.inj h'.2)
      subst hk
      exact ⟨by rw [h'.1, src_peer], rfl⟩
    · rintro ⟨h, rfl⟩
      exact ⟨by rw [h, peer_src], rfl⟩
  have e (j : Fin 3) : (if recvCell c k = recvCell (peer d j) j ∧ () = () then N else 0) = if d = src c k ∧ k = j then N else 0 :=
    if_congr (hiff j) rfl rfl
  rw [oweB0_apply, oweR0_apply, if_neg (hne 2), if_neg (hne 1), if_neg (hne 0), e 2, e 1, e 0]
  simp only [Nat.add_zero]
  by_cases h : d = src c k
  · rw [if_pos h]
    simp only [h, true_and]
    exact one_of_three k N
  · rw [if_neg h, if_neg (fun h' => h h'.1), if_neg (fun h' => h h'.1), if_neg (fun h' => h h'.1)]

theorem launch_bar (c : Dev nD) :
    tallyOn (barCell c) (launchCredit (Pipeline.owing oweB0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : Fin 3) :
    tallyOn (recvCell c k) (launchCredit (Pipeline.owing oweB0) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src c k) fun _ => N,
    if_pos (Finset.mem_univ _)]

omit [FloatOps F] in
theorem creds (c : Dev nD) : (Pipeline.launchCred oweB0 c : sProp 𝕄) ⊢ credits c := by
  unfold Pipeline.launchCred credits
  rw [bigSep_univ_at _ (SemLoc.reg barS), launch_bar]
  refine sep_mono_right ?_
  rw [← launch_recv, ← launch_recv, ← launch_recv]
  have n0 : (SemLoc.dma (recvS 0) : SemLoc sig) ≠ .reg barS := nofun
  have n1 : (SemLoc.dma (recvS 1) : SemLoc sig) ≠ .reg barS := nofun
  have n2 : (SemLoc.dma (recvS 2) : SemLoc sig) ≠ .reg barS := nofun
  have n10 : (SemLoc.dma (recvS 1) : SemLoc sig) ≠ .dma (recvS 0) := by decide
  have n20 : (SemLoc.dma (recvS 2) : SemLoc sig) ≠ .dma (recvS 0) := by decide
  have n21 : (SemLoc.dma (recvS 2) : SemLoc sig) ≠ .dma (recvS 1) := by decide
  rw [BI.bigSep_erase (i := SemLoc.dma (recvS 0)) (Finset.mem_erase.mpr ⟨n0, Finset.mem_univ _⟩)]
  refine sep_mono_right ?_
  rw [BI.bigSep_erase (i := SemLoc.dma (recvS 1)) (Finset.mem_erase.mpr ⟨n10, Finset.mem_erase.mpr ⟨n1, Finset.mem_univ _⟩⟩)]
  refine sep_mono_right ?_
  exact bigSep_elim (Finset.mem_erase.mpr ⟨n21, Finset.mem_erase.mpr ⟨n20, Finset.mem_erase.mpr ⟨n2, Finset.mem_univ _⟩⟩⟩)

/-! ## The launch's side conditions -/

theorem start_intro (c : Dev nD) :
    iprop(Pipeline.unscopedRestP Pipeline.Prefetch.none cfg0.spec c (fun b => m ((c : Thread nD τ).loc b)) ∗ levAts L lv
        ∗ Pipeline.launchCred oweB0 c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyComm
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ anyComm closed
  iintro ⟨Hr, HzB, ⟨z0, z1, z2⟩, z3, z4, z5⟩
  isplitl [HzB]; · iexact HzB
  isplitr [Hr]
  · isplitl [z0]; · iexact z0
    isplitl [z1]; · iexact z1
    isplitl [z2]; · iexact z2
    isplitl [z3]; · iexact z3
    isplitl [z4]; · iexact z4
    iexact z5
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the four devices
    ends, the arrays at the contents the point's data says and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweB0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_wires m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem finalA_x (c : Dev nD) : finalA m ρ c (0 : Fin 3) = (s₀ m ρ).mem ((c : Thread nD τ).loc main_arg0) :=
  (dats (F := F) m ρ 0 c).arrAt_in (0 : Fin 3) rfl _
theorem finalA_g (c : Dev nD) : finalA m ρ c (1 : Fin 3) = (s₀ m ρ).mem ((c : Thread nD τ).loc main_arg1) :=
  (dats (F := F) m ρ 0 c).arrAt_in (1 : Fin 3) rfl _

end Cert.RowNorm

end
-- ==== Proof.Final.lean ====
/-
# What the arrays hold at the end

The window of each array is the whole array, so the body reads the arguments themselves and its result is the result
array's contents.
-/
module

public import proofs.«01_k».proof.Proof.Run

@[expose] public section

noncomputable section

namespace Cert.RowNorm

open Cert.KernelIdeal Cert.KernelIdeal.Gen

open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The result's block is flushed once, after the point: read back, it is what the body left in its staging buffer. -/
theorem blk_o (c : Dev nD) :
    (win0_2.blk (0 : Fin 1)).view.read (Elt F) (finalA m ρ c (2 : Fin 3)) = outAt m ρ c := by
  have e : finalA m ρ c (2 : Fin 3) = (win0_2.blk (0 : Fin 1)).view.write (Elt F) ((dats m ρ 0 c).arrAt (2 : Fin 3) 0) (outAt m ρ c) Finset.univ :=
    ((dats m ρ 0 c).arrAt_succ (2 : Fin 3) (0 : Fin 1)).trans (if_pos (flush0_2 (0 : Fin 1)))
  rw [e]
  exact View.read_write_univ _ _

theorem zero_mul_fun {n : Nat} (a : Fin n → Nat) : (fun b => 0 * a b) = fun _ => 0 := funext fun _ => Nat.zero_mul _

/-- The result array at the end. -/
theorem finalA_o (c : Dev nD) : finalA m ρ c (2 : Fin 3) = outAt m ρ c :=
  Eq.trans (Memref.readAt_unit_zero (Elt F) main_v1 (zero_mul_fun _) _ _).symm (blk_o m ρ c)

theorem xstg_eq (c : Dev nD) : xstg m ρ c = m ((c : Thread nD τ).loc main_arg0) :=
  Memref.readAt_unit_zero (Elt F) main_arg0 (zero_mul_fun _) _ _

theorem gstg_eq (c : Dev nD) : gstg m ρ c = m ((c : Thread nD τ).loc main_arg1) :=
  Memref.readAt_unit_zero (Elt F) main_arg1 (zero_mul_fun _) _ _

end Cert.RowNorm

end
-- ==== Proof.Value.lean ====
/-
# The value

What a device computes and what the reference computes, each read at one element over the extended reals, and why they
are equal: the row's sum of squares is the four devices' partial sums in any order, and dividing by a square root is
multiplying by the reciprocal square root, the sum being no less than zero and the constant under the root positive.
-/
module

public import proofs.«01_k».proof.Proof.Final
public import proofs.«01_k».proof.Proof.Gen.ReferenceIdeal.Run
public import Idealize.ShloMosaic.Lib.Pointwise
public import Idealize.ShloMosaic.Lib.Layout

@[expose] public section

noncomputable section

namespace Cert.RowNorm

open Idealize.ShloMosaic Idealize.ShloMosaic.TcCoe

/-! ## The two programs at an element -/

section Kernel

open Cert.KernelIdeal Cert.KernelIdeal.Gen

/-- A device's own sums of squares, at the row they are of. -/
theorem pay2_at (x : Vec Ideal S1024x512 .f32) (r : Fin 1024) :
    k0_pay2 (F := Ideal) x (ix3 0 ⟨r.val / 128, by omega⟩ ⟨r.val % 128, by omega⟩) = ∑ k : Fin 512, x (ix2 r k) * x (ix2 r k) := by
  pointwise [k0_pay2, k0_pay1]

/-- A device's result at an element: its own elements' product, times the reciprocal root of the mean over all devices. -/
theorem pay5_at (x : Vec Ideal S1024x512 .f32) (g : Vec Ideal S512 .f32) (a b d e : Vec Ideal S1024x512 .f32) (r : Fin 1024) (l : Fin 512) :
    k0_pay5 (F := Ideal) (k0_pay3 (k0_pay1 x) g) (k0_pay4 (k0_pay2 a) (k0_pay2 b) (k0_pay2 d)) (k0_pay2 e) (ix2 r l)
      = x (ix2 r l) * g (ix1 l) * Ideal.rsqrt (((∑ k : Fin 512, a (ix2 r k) * a (ix2 r k)) + (∑ k : Fin 512, b (ix2 r k) * b (ix2 r k))
          + (∑ k : Fin 512, d (ix2 r k) * d (ix2 r k)) + (∑ k : Fin 512, e (ix2 r k) * e (ix2 r k))) * Ideal.ofBits .f32 0x3A000000#32
          + Ideal.ofBits .f32 0x3727C5AC#32) := by
  rw [← pay2_at a, ← pay2_at b, ← pay2_at d, ← pay2_at e]
  generalize k0_pay2 (F := Ideal) a = a', k0_pay2 (F := Ideal) b = b', k0_pay2 (F := Ideal) d = d', k0_pay2 (F := Ideal) e = e'
  pointwise [k0_pay5, k0_pay4, k0_pay3, k0_pay1]

end Kernel

section Reference

open Cert.ReferenceIdeal Cert.ReferenceIdeal.Gen

/-- The reference's result, as its operations compose it. -/
def refOut (X : FVec Ideal S1024x2048 .f32) (G : FVec Ideal S2048 .f32) :
    FVec Ideal S1024x2048 .bf16 :=
  truncf .bf16 (Host.divf (mulf (broadcastInDim S1024x2048 ![0, 1] bcast_S1x2048_S1024x2048_0_1 (broadcastInDim S1x2048 ![1] bcast_S2048_S1x2048_1 G)) X)
    (broadcastInDim S1024x2048 ![0, 1] bcast_S1024x1_S1024x2048_0_1 (Host.sqrt (addf (Host.divf (broadcastInDim S1024x1 ![0] bcast_S1024_S1024x1_0
      (Host.reduceAdd (mulf X X) (constant S_ .f32 0x00000000#32) reducesTo_S1024x2048_S1024_d1 h_S_))
      (broadcastInDim S1024x1 ![] bcast_S_S1024x1 (constant S_ .f32 0x45000000#32)))
      (broadcastInDim S1024x1 ![] bcast_S_S1024x1 (constant S_ .f32 0x3727C5AC#32)))))) bitsLt_bf16_f32

theorem refOut_at (X : FVec Ideal S1024x2048 .f32) (G : FVec Ideal S2048 .f32) (r : Fin 1024) (n : Fin 2048) :
    refOut X G (ix2 r n) = Ideal.div (G (ix1 n) * X (ix2 r n))
      (Ideal.sqrt (Ideal.div (∑ k : Fin 2048, X (ix2 r k) * X (ix2 r k)) (Ideal.ofBits .f32 0x45000000#32) + Ideal.ofBits .f32 0x3727C5AC#32)) := by
  pointwise [refOut]

end Reference

/-! ## The sum over a row, in four parts -/

/-- Column `k` of block `c`, among the 2048. -/
def col (c : Fin 4) (k : Fin 512) : Fin 2048 := ⟨c.val * 512 + k.val, by omega⟩

/-- The sum over 2048 columns is the sum over the four blocks of the blocks' sums, -/
theorem sum_blocks (f : Fin 2048 → EReal) : ∑ n : Fin 2048, f n = ∑ c : Fin 4, ∑ k : Fin 512, f (col c k) := by
  rw [← Fintype.sum_prod_type']
  refine (Equiv.sum_comp (finProdFinEquiv (m := 4) (n := 512)) f).symm.trans ?_
  refine Finset.sum_congr rfl fun p _ => congrArg f (Fin.ext ?_)
  show p.2.val + 512 * p.1.val = p.1.val * 512 + p.2.val
  omega

/-- taken in the order in which a device adds them: its own, then its three neighbours' to the left. -/
theorem sum_around (S : Fin 4 → EReal) (c : Fin 4) : ∑ d : Fin 4, S d = S c + S (src c 0) + S (src c 1) + S (src c 2) := by
  rw [Fin.sum_univ_four]
  fin_cases c
  · show S 0 + S 1 + S 2 + S 3 = S 0 + S 3 + S 2 + S 1
    abel
  · show S 0 + S 1 + S 2 + S 3 = S 1 + S 0 + S 3 + S 2
    abel
  · show S 0 + S 1 + S 2 + S 3 = S 2 + S 1 + S 0 + S 3
    abel
  · show S 0 + S 1 + S 2 + S 3 = S 3 + S 2 + S 1 + S 0
    abel

/-! ## The constants and the root -/

theorem inv2048 : Ideal.ofBits .f32 0x3A000000#32 = (((2048 : ℝ)⁻¹ : ℝ) : EReal) := by
  simp [Ideal.ofBits, Ideal.ieee, -EReal.coe_mul]
  norm_num

theorem c2048 : Ideal.ofBits .f32 0x45000000#32 = ((2048 : ℝ) : EReal) := by
  simp [Ideal.ofBits, Ideal.ieee, -EReal.coe_mul]
  norm_num

/-- The constant added under the root is a positive number. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- A square is no less than zero, infinities included. -/
theorem mul_self_nonneg' (x : EReal) : 0 ≤ x * x := by
  induction x with
  | bot => simp
  | top => simp
  | coe r => exact_mod_cast mul_self_nonneg r

/-- Multiplying by the reciprocal root of the mean is dividing by its root. -/
theorem mul_rsqrt_eq_div_sqrt (y t : EReal) (ht : 0 ≤ t) :
    y * Ideal.rsqrt (t * Ideal.ofBits .f32 0x3A000000#32 + Ideal.ofBits .f32 0x3727C5AC#32)
      = Ideal.div y (Ideal.sqrt (Ideal.div t (Ideal.ofBits .f32 0x45000000#32) + Ideal.ofBits .f32 0x3727C5AC#32)) := by
  obtain ⟨e, he, hE⟩ := eps_pos
  have h2048 : Ideal.div t ((2048 : ℝ) : EReal) = t * (((2048 : ℝ)⁻¹ : ℝ) : EReal) := by
    unfold Ideal.div
    rw [if_neg (by norm_num), EReal.coe_inv]
  rw [hE, inv2048, c2048, h2048]
  induction t with
  | bot => exact absurd ht (by simp)
  | top =>
    rw [EReal.top_mul_coe_of_pos (by norm_num), EReal.top_add_coe]
    simp [Ideal.div]
  | coe t =>
    have ht' : 0 ≤ t := by exact_mod_cast ht
    have hs : 0 < t * (2048 : ℝ)⁻¹ + e := by positivity
    have hq : 0 < Real.sqrt (t * (2048 : ℝ)⁻¹ + e) := Real.sqrt_pos.2 hs
    rw [← EReal.coe_mul, ← EReal.coe_add, Ideal.rsqrt_coe, Ideal.sqrt_coe, if_neg hs.not_gt, if_neg hs.ne', if_neg hs.not_gt]
    unfold Ideal.div
    rw [if_neg (by exact_mod_cast hq.ne'), EReal.coe_inv]

/-! ## A device's result is its block of the reference's -/

section Block

open Cert.KernelIdeal Cert.KernelIdeal.Gen

variable (m : (ℓ : Loc nD τ sig) → Buf (Elt Ideal) ℓ) (ρ : Dev nD → PrngReg)

theorem outAt_eq (X : (⟨2, ![1024, 2048]⟩ : Shape).Idx → EReal) (G : (⟨1, ![2048]⟩ : Shape).Idx → EReal)
    (hx : ∀ c : Dev nD, m ((c : Thread nD τ).loc main_arg0) = Layout.block ⟨2, ![1024, 512]⟩ ⟨2, ![1024, 2048]⟩ 1 4 c X)
    (hg : ∀ c : Dev nD, m ((c : Thread nD τ).loc main_arg1) = Layout.block ⟨1, ![512]⟩ ⟨1, ![2048]⟩ 0 4 c G) (c : Dev nD) :
    outAt m ρ c = Layout.block ⟨2, ![1024, 512]⟩ ⟨2, ![1024, 2048]⟩ 1 4 c (refOut X G) := by
  have hX : ∀ (d : Dev nD) (r : Fin 1024) (k : Fin 512), xstg m ρ d (ix2 r k) = X (ix2 r (col d k)) := fun d r k => by
    rw [xstg_eq, hx]
    exact congrArg X (funext fun a => Fin.ext (by fin_cases a <;> rfl))
  have hG : ∀ (d : Dev nD) (k : Fin 512), gstg m ρ d (ix1 k) = G (ix1 (col d k)) := fun d k => by
    rw [gstg_eq, hg]
    exact congrArg G (funext fun a => Fin.ext (by fin_cases a <;> rfl))
  funext i
  obtain ⟨r, l, rfl⟩ : ∃ (r : Fin 1024) (l : Fin 512), i = ix2 r l := ⟨i 0, i 1, funext fun a => Fin.ext (by fin_cases a <;> rfl)⟩
  have hidx : ∀ h : Layout.Tiles ⟨2, ![1024, 512]⟩ ⟨2, ![1024, 2048]⟩ 1 4, h.idx c (ix2 r l) = ix2 r (col c l) := fun h =>
    funext fun a => Fin.ext (by fin_cases a <;> rfl)
  rw [Layout.block_apply, hidx, refOut_at]
  unfold outAt sums
  rw [pay5_at]
  simp only [hX, hG]
  rw [sum_blocks, sum_around _ c, mul_comm (G _), mul_rsqrt_eq_div_sqrt]
  have hS : ∀ d : Dev nD, (0 : EReal) ≤ ∑ k : Fin 512, X (ix2 r (col d k)) * X (ix2 r (col d k)) := fun d =>
    Finset.sum_nonneg fun k _ => mul_self_nonneg' _
  exact add_nonneg (add_nonneg (add_nonneg (hS _) (hS _)) (hS _)) (hS _)

end Block

end Cert.RowNorm

end
-- ==== Proof.lean ====
/-
# The certificate's claims

The run of the kernel on the four devices is proved once, for any float values (Proof/Run.lean); the frames of the kernel
and of its ideal reading are that run at the two float instances. The reference's run is its operations composed. The
value claim puts the two runs side by side and uses the equation of Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem

/-- For any float values the kernel ends, its arguments unchanged and its counters at zero. -/
theorem frame_of {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (RowNorm.finalA_x m ρ c), (h.1 c (1 : Fin 3)).trans (RowNorm.finalA_g m ρ c)⟩, h.2⟩)
    (RowNorm.run_main m ρ)

/-- The kernel and its ideal reading have the same body at their one label, -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl

/-- and so the same body table. -/
theorem defs_eq {F : FTy → Type} [FloatOps F] : Cert.Kernel.defs (F := F) = Cert.KernelIdeal.defs :=
  congrArg (Pipeline.defs Cert.KernelIdeal.pcfgs) bodies_eq

theorem frame_kernel : Cert.quiescent_Kernel := by
  intro m ρ _
  rw [defs_eq]
  exact frame_of (F := Bits) m ρ

theorem frame_kernelIdeal : Cert.quiescent_KernelIdeal := fun m ρ _ => frame_of (F := Ideal) m ρ

/-- The reference's operations write no argument, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device ends with its block of the reference's result. -/
theorem value : Cert.algebraic_KernelIdeal_ReferenceIdeal := fun m ρ m' ρ' _ hargs =>
  ⟨RowNorm.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((RowNorm.finalA_o m ρ c).trans
            (RowNorm.outAt_eq m ρ _ _ (fun d => (hargs d).1) (fun d => (hargs d).2) c)),
        (h.1 c (0 : Fin 3)).trans (RowNorm.finalA_x m ρ c), (h.1 c (1 : Fin 3)).trans (RowNorm.finalA_g m ρ c)⟩)
      (RowNorm.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
